-- ==== Defs.lean ====
def Pre_Kernel [hPre_ranges : Cert.Pre_ranges.Facts] (m : (ℓ : Loc Cert.Kernel.nD Cert.Kernel.τ Cert.Kernel.sig) → Buf (Elt Bits) ℓ) : Prop :=
  ∀ c : Dev Cert.Kernel.nD,
    (Cert.Pre_ranges.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_ranges : Cert.Pre_ranges.Facts] (m : (ℓ : Loc Cert.KernelIdeal.nD Cert.KernelIdeal.τ Cert.KernelIdeal.sig) → Buf (Elt Ideal) ℓ) : Prop :=
  ∀ c : Dev Cert.KernelIdeal.nD,
    (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_ranges : Cert.Pre_ranges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 [hPre_finite : Cert.Pre_finite.Facts] (m : (ℓ : Loc Cert.Kernel6.nD Cert.Kernel6.τ Cert.Kernel6.sig) → Buf (Elt Bits) ℓ) : Prop :=
  ∀ c : Dev Cert.Kernel6.nD,
    (Cert.Pre_finite.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2))) = (fun _ => 1#1)

def Pre_Kernel6Ideal [hPre_finite : Cert.Pre_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal [hPre_finite : Cert.Pre_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] [hPre_ranges : Cert.Pre_ranges.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_ranges : Cert.Pre_ranges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] [hPre_finite : Cert.Pre_finite.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] [hPre_finite : Cert.Pre_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)) (v1 : (c : Dev Cert.Kernel5Ideal.nD) → Buf (Elt Ideal) ((c.tc : Thread Cert.Kernel5Ideal.nD Cert.Kernel5Ideal.τ).loc Cert.Kernel5Ideal.main_v20)) (v2 : (c : Dev Cert.Kernel5Ideal.nD) → Buf (Elt Ideal) ((c.tc : Thread Cert.Kernel5Ideal.nD Cert.Kernel5Ideal.τ).loc Cert.Kernel5Ideal.main_v22)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_v20) = v1 c
          ∧ r.2.mem ((c.tc : Thread Cert.Kernel5Ideal.nD Cert.Kernel5Ideal.τ).loc Cert.Kernel5Ideal.main_v22) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_v23) = v1 c
          ∧ r.2.mem ((c.tc : Thread Cert.Reference5Ideal.nD Cert.Reference5Ideal.τ).loc Cert.Reference5Ideal.main_v9) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  IdealRules.named_const.Statement Cert.Kernel6Ideal.κ "mask" .f32 0xF149F2CA#32 ⊥
  ∧ IdealRules.named_const.Statement Cert.Kernel6Ideal.κ "s" .f32 0x3D93CD3A#32 (((Real.sqrt 192)⁻¹ : ℝ) : EReal)

def algebraic_Kernel6Ideal_Reference6Ideal [hKernel6Ideal : Cert.Kernel6Ideal.Facts] [hReference6Ideal : Cert.Reference6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v27) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_ranges : Cert.Pre_ranges.Facts) (hPre_finite : Cert.Pre_finite.Facts),
    quiescent_Kernel (hKernel := hKernel) (hPre_ranges := hPre_ranges)
    ∧ quiescent_KernelIdeal (hKernelIdeal := hKernelIdeal) (hPre_ranges := hPre_ranges)
    ∧ quiescent_ReferenceIdeal (hReferenceIdeal := hReferenceIdeal) (hPre_ranges := hPre_ranges)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6) (hPre_finite := hPre_finite)
    ∧ quiescent_Kernel6Ideal (hKernel6Ideal := hKernel6Ideal) (hPre_finite := hPre_finite)
    ∧ quiescent_Reference6Ideal (hReference6Ideal := hReference6Ideal) (hPre_finite := hPre_finite)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal) (hPre_ranges := hPre_ranges)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal) (hPre_finite := hPre_finite)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S4x4096x2048 : Shape := ⟨3, ![4, 4096, 2048]⟩
abbrev S4x4608x2048 : Shape := ⟨3, ![4, 4608, 2048]⟩
abbrev S4x4608x1024 : Shape := ⟨3, ![4, 4608, 1024]⟩
abbrev S_ : Shape := ⟨0, ![]⟩

class Facts : Prop where
  bitsLt_bf16_f32 : FTy.bits .bf16 < FTy.bits .f32
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S4x4608x2048 : S_.BroadcastsInDim S4x4608x2048 (![] : Fin 0 → Fin S4x4608x2048.rank)
  reducesTo_S4x4608x2048_S_d0_1_2 : S4x4608x2048.ReducesTo [0, 1, 2] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S4x4096x2048 .bf16) (main_arg1 : FVec F S4x4608x2048 .bf16) (main_arg2 : FVec F S4x4608x1024 .bf16) : IVec S_ 1 :=
  let main_v0 : FVec F S4x4096x2048 .f32 := (extf .f32 · bitsLt_bf16_f32) main_arg0
  let main_v1 : FVec F S4x4608x2048 .f32 := (extf .f32 · bitsLt_bf16_f32) main_arg1
  let main_cst : FVec F S_ .f32 := constant S_ .f32 0x7F800000#32
  let main_v2 : FVec F S4x4096x2048 .f32 := broadcastInDim S4x4096x2048 ![] bcast_S_S4x4096x2048 main_cst
  let main_v3 : IVec S4x4096x2048 1 := cmpf .olt main_v0 main_v2
  let main_c : IVec S_ 1 := constantI S_ 1 1#1
  let main_v4 : IVec S_ 1 := (fun x v => Host.reduce IntOp.andi x v reducesTo_S4x4096x2048_S_d0_1_2 h_S_) main_v3 main_c
  let main_cst_0 : FVec F S_ .f32 := constant S_ .f32 0xFF800000#32
  let main_v5 : FVec F S4x4096x2048 .f32 := broadcastInDim S4x4096x2048 ![] bcast_S_S4x4096x2048 main_cst_0
  let main_v6 : IVec S4x4096x2048 1 := cmpf .ogt main_v0 main_v5
  let main_c_1 : IVec S_ 1 := constantI S_ 1 1#1
  let main_v7 : IVec S_ 1 := (fun x v => Host.reduce IntOp.andi x v reducesTo_S4x4096x2048_S_d0_1_2 h_S_) main_v6 main_c_1
  let main_v8 : IVec S_ 1 := andi main_v4 main_v7
  let main_cst_2 : FVec F S_ .f32 := constant S_ .f32 0x7F800000#32
  let main_v9 : FVec F S4x4608x2048 .f32 := broadcastInDim S4x4608x2048 ![] bcast_S_S4x4608x2048 main_cst_2
  let main_v10 : IVec S4x4608x2048 1 := cmpf .olt main_v1 main_v9
  let main_c_3 : IVec S_ 1 := constantI S_ 1 1#1
  let main_v11 : IVec S_ 1 := (fun x v => Host.reduce IntOp.andi x v reducesTo_S4x4608x2048_S_d0_1_2 h_S_) main_v10 main_c_3
  let main_v12 : IVec S_ 1 := andi main_v8 main_v11
  let main_cst_4 : FVec F S_ .f32 := constant S_ .f32 0xFF800000#32
  let main_v13 : FVec F S4x4608x2048 .f32 := broadcastInDim S4x4608x2048 ![] bcast_S_S4x4608x2048 main_cst_4
  let main_v14 : IVec S4x4608x2048 1 := cmpf .ogt main_v1 main_v13
  let main_c_5 : IVec S_ 1 := constantI S_ 1 1#1
  let main_v15 : IVec S_ 1 := (fun x v => Host.reduce IntOp.andi x v reducesTo_S4x4608x2048_S_d0_1_2 h_S_) main_v14 main_c_5
  fn_part1 (F := F) main_v12 main_v15
-- ==== Pre_ranges.lean ====
abbrev S98304x2048 : Shape := ⟨2, ![98304, 2048]⟩
abbrev S192 : Shape := ⟨1, ![192]⟩
abbrev S1 : Shape := ⟨1, ![1]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S_ : Shape := ⟨0, ![]⟩

class Facts : Prop where
  bcast_S_S192 : S_.BroadcastsInDim S192 (![] : Fin 0 → Fin S192.rank)
  reducesTo_S192_S_d0 : S192.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S98304x2048 .bf16) (main_arg1 : IVec S192 32) (main_arg2 : IVec S1 32) (main_arg3 : FVec F S32x2048x4096 .f32) (main_arg4 : FVec F S32x4096 .f32) (main_arg5 : FVec F S32x2048x2048 .f32) (main_arg6 : FVec F S32x2048 .f32) : IVec S_ 1 :=
  let main_c : IVec S_ 32 := constantI S_ 32 0#32
  let main_v0 : IVec S192 32 := broadcastInDim S192 ![] bcast_S_S192 main_c
  let main_v1 : IVec S192 1 := cmpi .sge main_arg1 main_v0
  let main_c_0 : IVec S_ 1 := constantI S_ 1 1#1
  let main_v2 : IVec S_ 1 := (fun x v => Host.reduce IntOp.andi x v reducesTo_S192_S_d0 h_S_) main_v1 main_c_0
  let main_c_1 : IVec S_ 32 := constantI S_ 32 32#32
  let main_v3 : IVec S192 32 := broadcastInDim S192 ![] bcast_S_S192 main_c_1
  let main_v4 : IVec S192 1 := cmpi .slt main_arg1 main_v3
  let main_c_2 : IVec S_ 1 := constantI S_ 1 1#1
  let main_v5 : IVec S_ 1 := (fun x v => Host.reduce IntOp.andi x v reducesTo_S192_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg2 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  let main_c_5 : IVec S_ 32 := constantI S_ 32 192#32
  let main_v11 : IVec S1 32 := broadcastInDim S1 ![] bcast_S_S1 main_c_5
  let main_v12 : IVec S1 1 := cmpi .sle main_arg2 main_v11
  let main_c_6 : IVec S_ 1 := constantI S_ 1 1#1
  let main_v13 : IVec S_ 1 := (fun x v => Host.reduce IntOp.andi x v reducesTo_S1_S_d0 h_S_) main_v12 main_c_6
  let main_v14 : IVec S_ 1 := andi main_v10 main_v13
  main_v14
-- ==== Kernel.lean ====
abbrev S98304x2048 : Shape := ⟨2, ![98304, 2048]⟩
abbrev S192 : Shape := ⟨1, ![192]⟩
abbrev S1 : Shape := ⟨1, ![1]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S32x1x2048 : Shape := ⟨3, ![32, 1, 2048]⟩
abbrev S512x2048 : Shape := ⟨2, ![512, 2048]⟩
abbrev S1x2048x512 : Shape := ⟨3, ![1, 2048, 512]⟩
abbrev S1x1x512 : Shape := ⟨3, ![1, 1, 512]⟩
abbrev S1x512x2048 : Shape := ⟨3, ![1, 512, 2048]⟩
abbrev S1x1x2048 : Shape := ⟨3, ![1, 1, 2048]⟩
abbrev S2048x512 : Shape := ⟨2, ![2048, 512]⟩
abbrev S512x512 : Shape := ⟨2, ![512, 512]⟩
abbrev S1x512 : Shape := ⟨2, ![1, 512]⟩
abbrev S1x2048 : Shape := ⟨2, ![1, 2048]⟩

abbrev nBuf : Space → Nat
  | .hbm => 15
  | .vmem => 16
  | .smem => 2
  | _ => 0

abbrev bufTy : (tb : Table) → Fin (tcTables nBuf tb) → BufTy
  | .hbm, ⟨0, _⟩ => ⟨S98304x2048, .bf16⟩
  | .hbm, ⟨1, _⟩ => ⟨S32x2048x4096, .f32⟩
  | .hbm, ⟨2, _⟩ => ⟨S32x4096, .f32⟩
  | .hbm, ⟨3, _⟩ => ⟨S32x2048x2048, .f32⟩
  | .hbm, ⟨4, _⟩ => ⟨S32x2048, .f32⟩
  | .hbm, ⟨5, _⟩ => ⟨S32x2048x4096, .bf16⟩
  | .hbm, ⟨6, _⟩ => ⟨S32x2048x2048, .bf16⟩
  | .hbm, ⟨7, _⟩ => ⟨S32x2048x2048, .bf16⟩
  | .hbm, ⟨8, _⟩ => ⟨S32x2048, .f32⟩
  | .hbm, ⟨9, _⟩ => ⟨S32x1x2048, .f32⟩
  | .hbm, ⟨10, _⟩ => ⟨S32x2048, .f32⟩
  | .hbm, ⟨11, _⟩ => ⟨S32x1x2048, .f32⟩
  | .hbm, ⟨12, _⟩ => ⟨S32x2048x2048, .bf16⟩
  | .hbm, ⟨13, _⟩ => ⟨S32x1x2048, .f32⟩
  | .hbm, ⟨14, _⟩ => ⟨S98304x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S1x512x2048, .bf16⟩
  | .local _ .vmem, ⟨11, _⟩ => ⟨S1x512x2048, .bf16⟩
  | .local _ .vmem, ⟨12, _⟩ => ⟨S1x1x2048, .f32⟩
  | .local _ .vmem, ⟨13, _⟩ => ⟨S1x1x2048, .f32⟩
  | .local _ .vmem, ⟨14, _⟩ => ⟨S512x2048, .f32⟩
  | .local _ .vmem, ⟨15, _⟩ => ⟨S512x2048, .f32⟩
  | .local _ .smem, ⟨0, _⟩ => ⟨S192, .i32⟩
  | .local _ .smem, ⟨1, _⟩ => ⟨S1, .i32⟩
  | _, _ => ⟨S98304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![192, 4], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) : BitVec 1 :=
  let arg1 : BitVec 32 := BitVec.ofNat 32 (i 1).val
  let c0_i32_27 : BitVec 32 := 0#32
  let v45 : BitVec 1 := Scalar.cmpi .eq arg1 c0_i32_27
  let v46 : BitVec 32 := Scalar.extui v45
  let c0_i32_28 : BitVec 32 := 0#32
  let v47 : BitVec 1 := Scalar.cmpi .ne v46 c0_i32_28
  v47

def k0_cond3 (i : grid0.Coords) : BitVec 1 :=
  let arg1 : BitVec 32 := BitVec.ofNat 32 (i 1).val
  let c0_i32_29 : BitVec 32 := 0#32
  let v48 : BitVec 1 := Scalar.cmpi .sgt arg1 c0_i32_29
  let v49 : BitVec 32 := Scalar.extui v48
  let c0_i32_30 : BitVec 32 := 0#32
  let v50 : BitVec 1 := Scalar.cmpi .ne v49 c0_i32_30
  v50

def k0_cond4 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let arg1 : BitVec 32 := BitVec.ofNat 32 (i 1).val
  let c3_i32 : BitVec 32 := 3#32
  let v5 : BitVec 1 := Scalar.cmpi .eq arg1 c3_i32
  let v6 : BitVec 1 := Scalar.andi v4 v5
  let v7 : BitVec 32 := Scalar.extui v6
  let c0_i32_0 : BitVec 32 := 0#32
  let v8 : BitVec 1 := Scalar.cmpi .ne v7 c0_i32_0
  v8

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S192.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S192) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S192.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S192) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S192.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S192) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c0_i32 : BitVec 32 := 0#32
  let c0_i32_0 : BitVec 32 := 0#32
  ![v1.toNat, c0_i32.toNat, v4.toNat]

def cc0_transform_4 (k0_off1_inb : ∀ i : grid0.Coords, ∀ a, (k0_off1 i) a + S1.size a ≤ S192.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S192) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c0_i32 : BitVec 32 := 0#32
  let c0_i32_0 : BitVec 32 := 0#32
  ![v1.toNat, c0_i32.toNat, v4.toNat]

def cc0_transform_5 (k0_off1_inb : ∀ i : grid0.Coords, ∀ a, (k0_off1 i) a + S1.size a ≤ S192.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S192) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c0_i32 : BitVec 32 := 0#32
  let c0_i32_0 : BitVec 32 := 0#32
  ![v1.toNat, v4.toNat, c0_i32.toNat]

def cc0_transform_6 (k0_off1_inb : ∀ i : grid0.Coords, ∀ a, (k0_off1 i) a + S1.size a ≤ S192.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S192) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S98304x2048 : Shape := ⟨2, ![98304, 2048]⟩
abbrev S192 : Shape := ⟨1, ![192]⟩
abbrev S1 : Shape := ⟨1, ![1]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S192x512x2048 : Shape := ⟨3, ![192, 512, 2048]⟩
abbrev S_ : Shape := ⟨0, ![]⟩
abbrev S192x1 : Shape := ⟨2, ![192, 1]⟩
abbrev S192x2048x4096 : Shape := ⟨3, ![192, 2048, 4096]⟩
abbrev S192x512x4096 : Shape := ⟨3, ![192, 512, 4096]⟩
abbrev S192x4096 : Shape := ⟨2, ![192, 4096]⟩
abbrev S192x1x4096 : Shape := ⟨3, ![192, 1, 4096]⟩
abbrev S192x2048x2048 : Shape := ⟨3, ![192, 2048, 2048]⟩
abbrev S192x2048 : Shape := ⟨2, ![192, 2048]⟩
abbrev S192x1x2048 : Shape := ⟨3, ![192, 1, 2048]⟩
abbrev S192x1x1 : Shape := ⟨3, ![192, 1, 1]⟩

abbrev nBuf : Space → Nat
  | .hbm => 93
  | .vmem => 0
  | .smem => 0
  | _ => 0

abbrev bufTy : (tb : Table) → Fin (tcTables nBuf tb) → BufTy
  | .hbm, ⟨0, _⟩ => ⟨S98304x2048, .bf16⟩
  | .hbm, ⟨1, _⟩ => ⟨S192, .i32⟩
  | .hbm, ⟨2, _⟩ => ⟨S1, .i32⟩
  | .hbm, ⟨3, _⟩ => ⟨S32x2048x4096, .f32⟩
  | .hbm, ⟨4, _⟩ => ⟨S32x4096, .f32⟩
  | .hbm, ⟨5, _⟩ => ⟨S32x2048x2048, .f32⟩
  | .hbm, ⟨6, _⟩ => ⟨S32x2048, .f32⟩
  | .hbm, ⟨7, _⟩ => ⟨S98304x2048, .f32⟩
  | .hbm, ⟨8, _⟩ => ⟨S192x512x2048, .f32⟩
  | .hbm, ⟨9, _⟩ => ⟨S_, .i32⟩
  | .hbm, ⟨10, _⟩ => ⟨S192, .i32⟩
  | .hbm, ⟨11, _⟩ => ⟨S192, .i1⟩
  | .hbm, ⟨12, _⟩ => ⟨S_, .i32⟩
  | .hbm, ⟨13, _⟩ => ⟨S192, .i32⟩
  | .hbm, ⟨14, _⟩ => ⟨S192, .i32⟩
  | .hbm, ⟨15, _⟩ => ⟨S192, .i32⟩
  | .hbm, ⟨16, _⟩ => ⟨S192x1, .i32⟩
  | .hbm, ⟨17, _⟩ => ⟨S192x2048x4096, .f32⟩
  | .hbm, ⟨18, _⟩ => ⟨S192x512x4096, .f32⟩
  | .hbm, ⟨19, _⟩ => ⟨S_, .i32⟩
  | .hbm, ⟨20, _⟩ => ⟨S192, .i32⟩
  | .hbm, ⟨21, _⟩ => ⟨S192, .i1⟩
  | .hbm, ⟨22, _⟩ => ⟨S_, .i32⟩
  | .hbm, ⟨23, _⟩ => ⟨S192, .i32⟩
  | .hbm, ⟨24, _⟩ => ⟨S192, .i32⟩
  | .hbm, ⟨25, _⟩ => ⟨S192, .i32⟩
  | .hbm, ⟨26, _⟩ => ⟨S192x1, .i32⟩
  | .hbm, ⟨27, _⟩ => ⟨S192x4096, .f32⟩
  | .hbm, ⟨28, _⟩ => ⟨S192x1x4096, .f32⟩
  | .hbm, ⟨29, _⟩ => ⟨S192x512x4096, .f32⟩
  | .hbm, ⟨30, _⟩ => ⟨S192x512x4096, .f32⟩
  | .hbm, ⟨31, _⟩ => ⟨S192x512x2048, .f32⟩
  | .hbm, ⟨32, _⟩ => ⟨S_, .f32⟩
  | .hbm, ⟨33, _⟩ => ⟨S192x512x2048, .f32⟩
  | .hbm, ⟨34, _⟩ => ⟨S192x512x2048, .f32⟩
  | .hbm, ⟨35, _⟩ => ⟨S192x512x2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S192x512x2048, .f32⟩
  | .hbm, ⟨40, _⟩ => ⟨S192x512x2048, .f32⟩
  | .hbm, ⟨41, _⟩ => ⟨S_, .f32⟩
  | .hbm, ⟨42, _⟩ => ⟨S192x512x2048, .f32⟩
  | .hbm, ⟨43, _⟩ => ⟨S192x512x2048, .f32⟩
  | .hbm, ⟨44, _⟩ => ⟨S_, .f32⟩
  | .hbm, ⟨45, _⟩ => ⟨S192x512x2048, .f32⟩
  | .hbm, ⟨46, _⟩ => ⟨S192x512x2048, .f32⟩
  | .hbm, ⟨47, _⟩ => ⟨S192x512x2048, .f32⟩
  | .hbm, ⟨48, _⟩ => ⟨S192x512x2048, .f32⟩
  | .hbm, ⟨49, _⟩ => ⟨S_, .f32⟩
  | .hbm, ⟨50, _⟩ => ⟨S192x512x2048, .f32⟩
  | .hbm, ⟨51, _⟩ => ⟨S192x512x2048, .f32⟩
  | .hbm, ⟨52, _⟩ => ⟨S_, .f32⟩
  | .hbm, ⟨53, _⟩ => ⟨S192x512x2048, .f32⟩
  | .hbm, ⟨54, _⟩ => ⟨S192x512x2048, .f32⟩
  | .hbm, ⟨55, _⟩ => ⟨S192x512x2048, .f32⟩
  | .hbm, ⟨56, _⟩ => ⟨S_, .f32⟩
  | .hbm, ⟨57, _⟩ => ⟨S192x512x2048, .f32⟩
  | .hbm, ⟨58, _⟩ => ⟨S192x512x2048, .f32⟩
  | .hbm, ⟨59, _⟩ => ⟨S192x512x2048, .f32⟩
  | .hbm, ⟨60, _⟩ => ⟨S_, .i32⟩
  | .hbm, ⟨61, _⟩ => ⟨S192, .i32⟩
  | .hbm, ⟨62, _⟩ => ⟨S192, .i1⟩
  | .hbm, ⟨63, _⟩ => ⟨S_, .i32⟩
  | .hbm, ⟨64, _⟩ => ⟨S192, .i32⟩
  | .hbm, ⟨65, _⟩ => ⟨S192, .i32⟩
  | .hbm, ⟨66, _⟩ => ⟨S192, .i32⟩
  | .hbm, ⟨67, _⟩ => ⟨S192x1, .i32⟩
  | .hbm, ⟨68, _⟩ => ⟨S192x2048x2048, .f32⟩
  | .hbm, ⟨69, _⟩ => ⟨S192x512x2048, .f32⟩
  | .hbm, ⟨70, _⟩ => ⟨S_, .i32⟩
  | .hbm, ⟨71, _⟩ => ⟨S192, .i32⟩
  | .hbm, ⟨72, _⟩ => ⟨S192, .i1⟩
  | .hbm, ⟨73, _⟩ => ⟨S_, .i32⟩
  | .hbm, ⟨74, _⟩ => ⟨S192, .i32⟩
  | .hbm, ⟨75, _⟩ => ⟨S192, .i32⟩
  | .hbm, ⟨76, _⟩ => ⟨S192, .i32⟩
  | .hbm, ⟨77, _⟩ => ⟨S192x1, .i32⟩
  | .hbm, ⟨78, _⟩ => ⟨S192x2048, .f32⟩
  | .hbm, ⟨79, _⟩ => ⟨S192x1x2048, .f32⟩
  | .hbm, ⟨80, _⟩ => ⟨S192x512x2048, .f32⟩
  | .hbm, ⟨81, _⟩ => ⟨S192x512x2048, .f32⟩
  | .hbm, ⟨82, _⟩ => ⟨S192, .i32⟩
  | .hbm, ⟨83, _⟩ => ⟨S_, .i32⟩
  | .hbm, ⟨84, _⟩ => ⟨S192, .i32⟩
  | .hbm, ⟨85, _⟩ => ⟨S192, .i1⟩
  | .hbm, ⟨86, _⟩ => ⟨S192x1x1, .i1⟩
  | .hbm, ⟨87, _⟩ => ⟨S_, .f32⟩
  | .hbm, ⟨88, _⟩ => ⟨S_, .f32⟩
  | .hbm, ⟨89, _⟩ => ⟨S192x512x2048, .i1⟩
  | .hbm, ⟨90, _⟩ => ⟨S192x512x2048, .f32⟩
  | .hbm, ⟨91, _⟩ => ⟨S192x512x2048, .f32⟩
  | .hbm, ⟨92, _⟩ => ⟨S98304x2048, .f32⟩
  | _, _ => ⟨S98304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_c_10 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_11 : Ref sig .tc := ⟨.hbm, 70, rfl⟩
abbrev main_v45 : Ref sig .tc := ⟨.hbm, 71, rfl⟩
abbrev main_v46 : Ref sig .tc := ⟨.hbm, 72, rfl⟩
abbrev main_c_12 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_13 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_v60 : Ref sig .tc := ⟨.hbm, 91, rfl⟩
abbrev main_v61 : Ref sig .tc := ⟨.hbm, 92, rfl⟩

abbrev nD : Nat := 1
abbrev τ : Topo := Topo.v7x

variable {F : FTy → Type} [FloatOps F]
-- ==== Kernel2.lean ====
abbrev S20480x2048 : Shape := ⟨2, ![20480, 2048]⟩
abbrev S2048x6144 : Shape := ⟨2, ![2048, 6144]⟩
abbrev S128 : Shape := ⟨1, ![128]⟩
abbrev S1x128 : Shape := ⟨2, ![1, 128]⟩
abbrev S16x128 : Shape := ⟨2, ![16, 128]⟩
abbrev S2048 : Shape := ⟨1, ![2048]⟩
abbrev S_ : Shape := ⟨0, ![]⟩
abbrev S6144 : Shape := ⟨1, ![6144]⟩
abbrev S1x6144 : Shape := ⟨2, ![1, 6144]⟩
abbrev S20480x6144 : Shape := ⟨2, ![20480, 6144]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 16
  | .vmem => 8
  | .smem => 0
  | _ => 0

abbrev bufTy : (tb : Table) → Fin (tcTables nBuf tb) → BufTy
  | .hbm, ⟨0, _⟩ => ⟨S20480x2048, .bf16⟩
  | .hbm, ⟨1, _⟩ => ⟨S2048x6144, .f32⟩
  | .hbm, ⟨2, _⟩ => ⟨S128, .f32⟩
  | .hbm, ⟨3, _⟩ => ⟨S128, .f32⟩
  | .hbm, ⟨4, _⟩ => ⟨S1x128, .f32⟩
  | .hbm, ⟨5, _⟩ => ⟨S16x128, .f32⟩
  | .hbm, ⟨6, _⟩ => ⟨S2048, .f32⟩
  | .hbm, ⟨7, _⟩ => ⟨S1x128, .f32⟩
  | .hbm, ⟨8, _⟩ => ⟨S16x128, .f32⟩
  | .hbm, ⟨9, _⟩ => ⟨S2048, .f32⟩
  | .hbm, ⟨10, _⟩ => ⟨S_, .f32⟩
  | .hbm, ⟨11, _⟩ => ⟨S2048, .f32⟩
  | .hbm, ⟨12, _⟩ => ⟨S6144, .f32⟩
  | .hbm, ⟨13, _⟩ => ⟨S2048x6144, .bf16⟩
  | .hbm, ⟨14, _⟩ => ⟨S1x6144, .f32⟩
  | .hbm, ⟨15, _⟩ => ⟨S20480x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S20480x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![20, 12], ![false, false]⟩

def k0_cond1 (i : grid0.Coords) : BitVec 1 :=
  let arg1 : BitVec 32 := BitVec.ofNat 32 (i 1).val
  let c8_i32 : BitVec 32 := 8#32
  let v4 : BitVec 1 := Scalar.cmpi .slt arg1 c8_i32
  let v5 : BitVec 32 := Scalar.extui v4
  let c0_i32 : BitVec 32 := 0#32
  let v6 : BitVec 1 := Scalar.cmpi .ne v5 c0_i32
  v6

def k0_cond2 (i : grid0.Coords) : BitVec 1 :=
  let arg1 : BitVec 32 := BitVec.ofNat 32 (i 1).val
  let c8_i32_3 : BitVec 32 := 8#32
  let v7 : BitVec 1 := Scalar.cmpi .sge arg1 c8_i32_3
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S20480x2048 : Shape := ⟨2, ![20480, 2048]⟩
abbrev S2048x6144 : Shape := ⟨2, ![2048, 6144]⟩
abbrev S128 : Shape := ⟨1, ![128]⟩
abbrev S20480x6144 : Shape := ⟨2, ![20480, 6144]⟩
abbrev S20480x3x16x128 : Shape := ⟨4, ![20480, 3, 16, 128]⟩
abbrev S20480x1x16x128 : Shape := ⟨4, ![20480, 1, 16, 128]⟩
abbrev S20480x16x128 : Shape := ⟨3, ![20480, 16, 128]⟩
abbrev S_ : Shape := ⟨0, ![]⟩
abbrev S20480x16 : Shape := ⟨2, ![20480, 16]⟩
abbrev S20480x16x1 : Shape := ⟨3, ![20480, 16, 1]⟩
abbrev S1x1x128 : Shape := ⟨3, ![1, 1, 128]⟩

abbrev nBuf : Space → Nat
  | .hbm => 50
  | .vmem => 0
  | .smem => 0
  | _ => 0

abbrev bufTy : (tb : Table) → Fin (tcTables nBuf tb) → BufTy
  | .hbm, ⟨0, _⟩ => ⟨S20480x2048, .bf16⟩
  | .hbm, ⟨1, _⟩ => ⟨S2048x6144, .f32⟩
  | .hbm, ⟨2, _⟩ => ⟨S128, .f32⟩
  | .hbm, ⟨3, _⟩ => ⟨S128, .f32⟩
  | .hbm, ⟨4, _⟩ => ⟨S20480x2048, .f32⟩
  | .hbm, ⟨5, _⟩ => ⟨S20480x6144, .f32⟩
  | .hbm, ⟨6, _⟩ => ⟨S20480x3x16x128, .f32⟩
  | .hbm, ⟨7, _⟩ => ⟨S20480x1x16x128, .f32⟩
  | .hbm, ⟨8, _⟩ => ⟨S20480x16x128, .f32⟩
  | .hbm, ⟨9, _⟩ => ⟨S20480x16x128, .f32⟩
  | .hbm, ⟨10, _⟩ => ⟨S_, .f32⟩
  | .hbm, ⟨11, _⟩ => ⟨S20480x16, .f32⟩
  | .hbm, ⟨12, _⟩ => ⟨S20480x16x1, .f32⟩
  | .hbm, ⟨13, _⟩ => ⟨S_, .f32⟩
  | .hbm, ⟨14, _⟩ => ⟨S20480x16x1, .f32⟩
  | .hbm, ⟨15, _⟩ => ⟨S20480x16x1, .f32⟩
  | .hbm, ⟨16, _⟩ => ⟨S_, .f32⟩
  | .hbm, ⟨17, _⟩ => ⟨S20480x16x1, .f32⟩
  | .hbm, ⟨18, _⟩ => ⟨S20480x16x1, .f32⟩
  | .hbm, ⟨19, _⟩ => ⟨S20480x16x1, .f32⟩
  | .hbm, ⟨20, _⟩ => ⟨S20480x16x128, .f32⟩
  | .hbm, ⟨21, _⟩ => ⟨S20480x16x128, .f32⟩
  | .hbm, ⟨22, _⟩ => ⟨S1x1x128, .f32⟩
  | .hbm, ⟨23, _⟩ => ⟨S20480x16x128, .f32⟩
  | .hbm, ⟨24, _⟩ => ⟨S20480x16x128, .f32⟩
  | .hbm, ⟨25, _⟩ => ⟨S20480x1x16x128, .f32⟩
  | .hbm, ⟨26, _⟩ => ⟨S20480x16x128, .f32⟩
  | .hbm, ⟨27, _⟩ => ⟨S20480x16x128, .f32⟩
  | .hbm, ⟨28, _⟩ => ⟨S_, .f32⟩
  | .hbm, ⟨29, _⟩ => ⟨S20480x16, .f32⟩
  | .hbm, ⟨30, _⟩ => ⟨S20480x16x1, .f32⟩
  | .hbm, ⟨31, _⟩ => ⟨S_, .f32⟩
  | .hbm, ⟨32, _⟩ => ⟨S20480x16x1, .f32⟩
  | .hbm, ⟨33, _⟩ => ⟨S20480x16x1, .f32⟩
  | .hbm, ⟨34, _⟩ => ⟨S_, .f32⟩
  | .hbm, ⟨35, _⟩ => ⟨S20480x16x1, .f32⟩
  | .hbm, ⟨36, _⟩ => ⟨S20480x16x1, .f32⟩
  | .hbm, ⟨37, _⟩ => ⟨S20480x16x1, .f32⟩
  | .hbm, ⟨38, _⟩ => ⟨S20480x16x128, .f32⟩
  | .hbm, ⟨39, _⟩ => ⟨S20480x16x128, .f32⟩
  | .hbm, ⟨40, _⟩ => ⟨S1x1x128, .f32⟩
  | .hbm, ⟨41, _⟩ => ⟨S20480x16x128, .f32⟩
  | .hbm, ⟨42, _⟩ => ⟨S20480x16x128, .f32⟩
  | .hbm, ⟨43, _⟩ => ⟨S20480x1x16x128, .f32⟩
  | .hbm, ⟨44, _⟩ => ⟨S20480x16x128, .f32⟩
  | .hbm, ⟨45, _⟩ => ⟨S20480x1x16x128, .f32⟩
  | .hbm, ⟨46, _⟩ => ⟨S20480x1x16x128, .f32⟩
  | .hbm, ⟨47, _⟩ => ⟨S20480x1x16x128, .f32⟩
  | .hbm, ⟨48, _⟩ => ⟨S20480x3x16x128, .f32⟩
  | .hbm, ⟨49, _⟩ => ⟨S20480x6144, .f32⟩
  | _, _ => ⟨S20480x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Kernel3.lean ====
abbrev S20480x2048 : Shape := ⟨2, ![20480, 2048]⟩
abbrev S2048x2048 : Shape := ⟨2, ![2048, 2048]⟩
abbrev S5x6x2048 : Shape := ⟨3, ![5, 6, 2048]⟩
abbrev S1024x2048 : Shape := ⟨2, ![1024, 2048]⟩
abbrev S2048x512 : Shape := ⟨2, ![2048, 512]⟩
abbrev S1024x512 : Shape := ⟨2, ![1024, 512]⟩
abbrev S1x6x512 : Shape := ⟨3, ![1, 6, 512]⟩
abbrev S1x1x512 : Shape := ⟨3, ![1, 1, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S20480x2048, .bf16⟩
  | .hbm, ⟨1, _⟩ => ⟨S2048x2048, .f32⟩
  | .hbm, ⟨2, _⟩ => ⟨S20480x2048, .f32⟩
  | .hbm, ⟨3, _⟩ => ⟨S5x6x2048, .f32⟩
  | .hbm, ⟨4, _⟩ => ⟨S2048x2048, .bf16⟩
  | .hbm, ⟨5, _⟩ => ⟨S20480x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1x6x512, .f32⟩
  | .local _ .vmem, ⟨7, _⟩ => ⟨S1x6x512, .f32⟩
  | .local _ .vmem, ⟨8, _⟩ => ⟨S1024x512, .f32⟩
  | .local _ .vmem, ⟨9, _⟩ => ⟨S1024x512, .f32⟩
  | _, _ => ⟨S20480x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![20, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S20480x2048 : Shape := ⟨2, ![20480, 2048]⟩
abbrev S2048x2048 : Shape := ⟨2, ![2048, 2048]⟩
abbrev S5x6x2048 : Shape := ⟨3, ![5, 6, 2048]⟩
abbrev S5x4096x2048 : Shape := ⟨3, ![5, 4096, 2048]⟩
abbrev S5x1x2048 : Shape := ⟨3, ![5, 1, 2048]⟩
abbrev S5x2048 : Shape := ⟨2, ![5, 2048]⟩

abbrev nBuf : Space → Nat
  | .hbm => 15
  | .vmem => 0
  | .smem => 0
  | _ => 0

abbrev bufTy : (tb : Table) → Fin (tcTables nBuf tb) → BufTy
  | .hbm, ⟨0, _⟩ => ⟨S20480x2048, .bf16⟩
  | .hbm, ⟨1, _⟩ => ⟨S2048x2048, .f32⟩
  | .hbm, ⟨2, _⟩ => ⟨S20480x2048, .f32⟩
  | .hbm, ⟨3, _⟩ => ⟨S5x6x2048, .f32⟩
  | .hbm, ⟨4, _⟩ => ⟨S20480x2048, .f32⟩
  | .hbm, ⟨5, _⟩ => ⟨S20480x2048, .f32⟩
  | .hbm, ⟨6, _⟩ => ⟨S5x4096x2048, .f32⟩
  | .hbm, ⟨7, _⟩ => ⟨S5x4096x2048, .f32⟩
  | .hbm, ⟨8, _⟩ => ⟨S5x1x2048, .f32⟩
  | .hbm, ⟨9, _⟩ => ⟨S5x2048, .f32⟩
  | .hbm, ⟨10, _⟩ => ⟨S5x1x2048, .f32⟩
  | .hbm, ⟨11, _⟩ => ⟨S5x4096x2048, .f32⟩
  | .hbm, ⟨12, _⟩ => ⟨S5x4096x2048, .f32⟩
  | .hbm, ⟨13, _⟩ => ⟨S5x4096x2048, .f32⟩
  | .hbm, ⟨14, _⟩ => ⟨S20480x2048, .f32⟩
  | _, _ => ⟨S20480x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel4.lean ====
abbrev S20480x2048 : Shape := ⟨2, ![20480, 2048]⟩
abbrev S2048x4176 : Shape := ⟨2, ![2048, 4176]⟩
abbrev S2048x3072 : Shape := ⟨2, ![2048, 3072]⟩
abbrev S20480x3072 : Shape := ⟨2, ![20480, 3072]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S20480x2048, .bf16⟩
  | .hbm, ⟨1, _⟩ => ⟨S2048x4176, .f32⟩
  | .hbm, ⟨2, _⟩ => ⟨S2048x3072, .f32⟩
  | .hbm, ⟨3, _⟩ => ⟨S2048x3072, .bf16⟩
  | .hbm, ⟨4, _⟩ => ⟨S20480x3072, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S20480x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![20, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S20480x2048 : Shape := ⟨2, ![20480, 2048]⟩
abbrev S2048x4176 : Shape := ⟨2, ![2048, 4176]⟩
abbrev S2048x3072 : Shape := ⟨2, ![2048, 3072]⟩
abbrev S20480x3072 : Shape := ⟨2, ![20480, 3072]⟩

abbrev nBuf : Space → Nat
  | .hbm => 5
  | .vmem => 0
  | .smem => 0
  | _ => 0

abbrev bufTy : (tb : Table) → Fin (tcTables nBuf tb) → BufTy
  | .hbm, ⟨0, _⟩ => ⟨S20480x2048, .bf16⟩
  | .hbm, ⟨1, _⟩ => ⟨S2048x4176, .f32⟩
  | .hbm, ⟨2, _⟩ => ⟨S20480x2048, .f32⟩
  | .hbm, ⟨3, _⟩ => ⟨S2048x3072, .f32⟩
  | .hbm, ⟨4, _⟩ => ⟨S20480x3072, .f32⟩
  | _, _ => ⟨S20480x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S20480x2048 : Shape := ⟨2, ![20480, 2048]⟩
abbrev S2048x4176 : Shape := ⟨2, ![2048, 4176]⟩
abbrev S512 : Shape := ⟨1, ![512]⟩
abbrev S2048x1088 : Shape := ⟨2, ![2048, 1088]⟩
abbrev S_ : Shape := ⟨0, ![]⟩
abbrev S2048x1280 : Shape := ⟨2, ![2048, 1280]⟩
abbrev S20480x1280 : Shape := ⟨2, ![20480, 1280]⟩
abbrev S1024x2048 : Shape := ⟨2, ![1024, 2048]⟩
abbrev S1024x1280 : Shape := ⟨2, ![1024, 1280]⟩
abbrev S20480x512 : Shape := ⟨2, ![20480, 512]⟩
abbrev S20480x64 : Shape := ⟨2, ![20480, 64]⟩
abbrev S20480 : Shape := ⟨1, ![20480]⟩
abbrev S20480x1 : Shape := ⟨2, ![20480, 1]⟩
abbrev S1x512 : Shape := ⟨2, ![1, 512]⟩
abbrev S4096x512 : Shape := ⟨2, ![4096, 512]⟩
abbrev S16x256x512 : Shape := ⟨3, ![16, 256, 512]⟩
abbrev S4096x64 : Shape := ⟨2, ![4096, 64]⟩
abbrev S16x256x64 : Shape := ⟨3, ![16, 256, 64]⟩

abbrev nBuf : Space → Nat
  | .hbm => 31
  | .vmem => 5
  | .smem => 0
  | _ => 0

abbrev bufTy : (tb : Table) → Fin (tcTables nBuf tb) → BufTy
  | .hbm, ⟨0, _⟩ => ⟨S20480x2048, .bf16⟩
  | .hbm, ⟨1, _⟩ => ⟨S2048x4176, .f32⟩
  | .hbm, ⟨2, _⟩ => ⟨S512, .f32⟩
  | .hbm, ⟨3, _⟩ => ⟨S2048x1088, .f32⟩
  | .hbm, ⟨4, _⟩ => ⟨S_, .i32⟩
  | .hbm, ⟨5, _⟩ => ⟨S_, .f32⟩
  | .hbm, ⟨6, _⟩ => ⟨S2048x1280, .f32⟩
  | .hbm, ⟨7, _⟩ => ⟨S2048x1280, .bf16⟩
  | .hbm, ⟨8, _⟩ => ⟨S20480x1280, .f32⟩
  | .hbm, ⟨9, _⟩ => ⟨S20480x512, .f32⟩
  | .hbm, ⟨10, _⟩ => ⟨S20480x64, .f32⟩
  | .hbm, ⟨11, _⟩ => ⟨S20480x512, .f32⟩
  | .hbm, ⟨12, _⟩ => ⟨S_, .f32⟩
  | .hbm, ⟨13, _⟩ => ⟨S20480, .f32⟩
  | .hbm, ⟨14, _⟩ => ⟨S20480x1, .f32⟩
  | .hbm, ⟨15, _⟩ => ⟨S_, .f32⟩
  | .hbm, ⟨16, _⟩ => ⟨S20480x1, .f32⟩
  | .hbm, ⟨17, _⟩ => ⟨S20480x1, .f32⟩
  | .hbm, ⟨18, _⟩ => ⟨S_, .f32⟩
  | .hbm, ⟨19, _⟩ => ⟨S20480x1, .f32⟩
  | .hbm, ⟨20, _⟩ => ⟨S20480x1, .f32⟩
  | .hbm, ⟨21, _⟩ => ⟨S20480x1, .f32⟩
  | .hbm, ⟨22, _⟩ => ⟨S20480x512, .f32⟩
  | .hbm, ⟨23, _⟩ => ⟨S20480x512, .f32⟩
  | .hbm, ⟨24, _⟩ => ⟨S1x512, .f32⟩
  | .hbm, ⟨25, _⟩ => ⟨S20480x512, .f32⟩
  | .hbm, ⟨26, _⟩ => ⟨S20480x512, .f32⟩
  | .hbm, ⟨27, _⟩ => ⟨S4096x512, .f32⟩
  | .hbm, ⟨28, _⟩ => ⟨S16x256x512, .f32⟩
  | .hbm, ⟨29, _⟩ => ⟨S4096x64, .f32⟩
  | .hbm, ⟨30, _⟩ => ⟨S16x256x64, .f32⟩
  | .local _ .vmem, ⟨0, _⟩ => ⟨S1024x2048, .bf16⟩
  | .local _ .vmem, ⟨1, _⟩ => ⟨S1024x2048, .bf16⟩
  | .local _ .vmem, ⟨2, _⟩ => ⟨S2048x1280, .bf16⟩
  | .local _ .vmem, ⟨3, _⟩ => ⟨S1024x1280, .f32⟩
  | .local _ .vmem, ⟨4, _⟩ => ⟨S1024x1280, .f32⟩
  | _, _ => ⟨S20480x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![20, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S20480x2048 : Shape := ⟨2, ![20480, 2048]⟩
abbrev S2048x4176 : Shape := ⟨2, ![2048, 4176]⟩
abbrev S512 : Shape := ⟨1, ![512]⟩
abbrev S2048x1088 : Shape := ⟨2, ![2048, 1088]⟩
abbrev S20480x1088 : Shape := ⟨2, ![20480, 1088]⟩
abbrev S4096x2048 : Shape := ⟨2, ![4096, 2048]⟩
abbrev S16x256x2048 : Shape := ⟨3, ![16, 256, 2048]⟩
abbrev S16x256x4176 : Shape := ⟨3, ![16, 256, 4176]⟩
abbrev S16x256x576 : Shape := ⟨3, ![16, 256, 576]⟩
abbrev S16x256x512 : Shape := ⟨3, ![16, 256, 512]⟩
abbrev S16x256x64 : Shape := ⟨3, ![16, 256, 64]⟩
abbrev S_ : Shape := ⟨0, ![]⟩
abbrev S20480x1280 : Shape := ⟨2, ![20480, 1280]⟩
abbrev S16x256 : Shape := ⟨2, ![16, 256]⟩
abbrev S16x256x1 : Shape := ⟨3, ![16, 256, 1]⟩
abbrev S1x1x512 : Shape := ⟨3, ![1, 1, 512]⟩

abbrev nBuf : Space → Nat
  | .hbm => 32
  | .vmem => 0
  | .smem => 0
  | _ => 0

abbrev bufTy : (tb : Table) → Fin (tcTables nBuf tb) → BufTy
  | .hbm, ⟨0, _⟩ => ⟨S20480x2048, .bf16⟩
  | .hbm, ⟨1, _⟩ => ⟨S2048x4176, .f32⟩
  | .hbm, ⟨2, _⟩ => ⟨S512, .f32⟩
  | .hbm, ⟨3, _⟩ => ⟨S20480x2048, .f32⟩
  | .hbm, ⟨4, _⟩ => ⟨S2048x1088, .f32⟩
  | .hbm, ⟨5, _⟩ => ⟨S20480x1088, .f32⟩
  | .hbm, ⟨6, _⟩ => ⟨S4096x2048, .bf16⟩
  | .hbm, ⟨7, _⟩ => ⟨S4096x2048, .f32⟩
  | .hbm, ⟨8, _⟩ => ⟨S16x256x2048, .f32⟩
  | .hbm, ⟨9, _⟩ => ⟨S16x256x4176, .f32⟩
  | .hbm, ⟨10, _⟩ => ⟨S16x256x576, .f32⟩
  | .hbm, ⟨11, _⟩ => ⟨S16x256x512, .f32⟩
  | .hbm, ⟨12, _⟩ => ⟨S16x256x64, .f32⟩
  | .hbm, ⟨13, _⟩ => ⟨S_, .i32⟩
  | .hbm, ⟨14, _⟩ => ⟨S_, .f32⟩
  | .hbm, ⟨15, _⟩ => ⟨S20480x1280, .f32⟩
  | .hbm, ⟨16, _⟩ => ⟨S16x256x512, .f32⟩
  | .hbm, ⟨17, _⟩ => ⟨S_, .f32⟩
  | .hbm, ⟨18, _⟩ => ⟨S16x256, .f32⟩
  | .hbm, ⟨19, _⟩ => ⟨S16x256x1, .f32⟩
  | .hbm, ⟨20, _⟩ => ⟨S_, .f32⟩
  | .hbm, ⟨21, _⟩ => ⟨S16x256x1, .f32⟩
  | .hbm, ⟨22, _⟩ => ⟨S16x256x1, .f32⟩
  | .hbm, ⟨23, _⟩ => ⟨S_, .f32⟩
  | .hbm, ⟨24, _⟩ => ⟨S16x256x1, .f32⟩
  | .hbm, ⟨25, _⟩ => ⟨S16x256x1, .f32⟩
  | .hbm, ⟨26, _⟩ => ⟨S16x256x1, .f32⟩
  | .hbm, ⟨27, _⟩ => ⟨S16x256x512, .f32⟩
  | .hbm, ⟨28, _⟩ => ⟨S16x256x512, .f32⟩
  | .hbm, ⟨29, _⟩ => ⟨S1x1x512, .f32⟩
  | .hbm, ⟨30, _⟩ => ⟨S16x256x512, .f32⟩
  | .hbm, ⟨31, _⟩ => ⟨S16x256x512, .f32⟩
  | _, _ => ⟨S20480x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel6.lean ====
abbrev S4x4096x2048 : Shape := ⟨3, ![4, 4096, 2048]⟩
abbrev S4x4608x2048 : Shape := ⟨3, ![4, 4608, 2048]⟩
abbrev S4x4608x1024 : Shape := ⟨3, ![4, 4608, 1024]⟩
abbrev S4x4096x1024 : Shape := ⟨3, ![4, 4096, 1024]⟩
abbrev S1x512x256 : Shape := ⟨3, ![1, 512, 256]⟩
abbrev S1x512x128 : Shape := ⟨3, ![1, 512, 128]⟩
abbrev S512x1 : Shape := ⟨2, ![512, 1]⟩
abbrev S512x128 : Shape := ⟨2, ![512, 128]⟩
abbrev S512x256 : Shape := ⟨2, ![512, 256]⟩
abbrev S512x512 : Shape := ⟨2, ![512, 512]⟩
abbrev S512 : Shape := ⟨1, ![512]⟩

abbrev nBuf : Space → Nat
  | .hbm => 4
  | .vmem => 11
  | .smem => 0
  | _ => 0

abbrev bufTy : (tb : Table) → Fin (tcTables nBuf tb) → BufTy
  | .hbm, ⟨0, _⟩ => ⟨S4x4096x2048, .bf16⟩
  | .hbm, ⟨1, _⟩ => ⟨S4x4608x2048, .bf16⟩
  | .hbm, ⟨2, _⟩ => ⟨S4x4608x1024, .bf16⟩
  | .hbm, ⟨3, _⟩ => ⟨S4x4096x1024, .bf16⟩
  | .local _ .vmem, ⟨0, _⟩ => ⟨S1x512x256, .bf16⟩
  | .local _ .vmem, ⟨1, _⟩ => ⟨S1x512x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x128, .bf16⟩
  | .local _ .vmem, ⟨5, _⟩ => ⟨S1x512x128, .bf16⟩
  | .local _ .vmem, ⟨6, _⟩ => ⟨S1x512x128, .bf16⟩
  | .local _ .vmem, ⟨7, _⟩ => ⟨S1x512x128, .bf16⟩
  | .local _ .vmem, ⟨8, _⟩ => ⟨S512x1, .f32⟩
  | .local _ .vmem, ⟨9, _⟩ => ⟨S512x1, .f32⟩
  | .local _ .vmem, ⟨10, _⟩ => ⟨S512x128, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![4, 8, 8, 9], ![false, false, false, false]⟩

def k0_cond2 (i : grid0.Coords) : BitVec 1 :=
  let arg3 : BitVec 32 := BitVec.ofNat 32 (i 3).val
  let c8_i32 : BitVec 32 := 8#32
  let v41 : BitVec 1 := Scalar.cmpi .eq arg3 c8_i32
  let v42 : BitVec 32 := Scalar.extui v41
  let c0_i32_25 : BitVec 32 := 0#32
  let v43 : BitVec 1 := Scalar.cmpi .ne v42 c0_i32_25
  v43

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== Kernel6Ideal.lean ====
variable {F : FTy → Type} [FloatOps F] [Named F]
def κ : String → Option EReal := fun
  | "mask" => some ⊥
  | "s" => some (((Real.sqrt 192)⁻¹ : ℝ) : EReal)
  | _ => none
-- ==== Reference6Ideal.lean ====
abbrev S4x4096x2048 : Shape := ⟨3, ![4, 4096, 2048]⟩
abbrev S4x4608x2048 : Shape := ⟨3, ![4, 4608, 2048]⟩
abbrev S4x4608x1024 : Shape := ⟨3, ![4, 4608, 1024]⟩
abbrev S4x4096x8x256 : Shape := ⟨4, ![4, 4096, 8, 256]⟩
abbrev S4x4608x8x256 : Shape := ⟨4, ![4, 4608, 8, 256]⟩
abbrev S4x4608x8x128 : Shape := ⟨4, ![4, 4608, 8, 128]⟩
abbrev S4x8x4096x4608 : Shape := ⟨4, ![4, 8, 4096, 4608]⟩
abbrev S_ : Shape := ⟨0, ![]⟩
abbrev S4x8x4096 : Shape := ⟨3, ![4, 8, 4096]⟩
abbrev S4x8x4096x1 : Shape := ⟨4, ![4, 8, 4096, 1]⟩
abbrev S4x8x128x4096 : Shape := ⟨4, ![4, 8, 128, 4096]⟩
abbrev S4x4096x8x128 : Shape := ⟨4, ![4, 4096, 8, 128]⟩
abbrev S4x4096x1024 : Shape := ⟨3, ![4, 4096, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S4x4608x2048, .bf16⟩
  | .hbm, ⟨2, _⟩ => ⟨S4x4608x1024, .bf16⟩
  | .hbm, ⟨3, _⟩ => ⟨S4x4096x2048, .f32⟩
  | .hbm, ⟨4, _⟩ => ⟨S4x4096x8x256, .f32⟩
  | .hbm, ⟨5, _⟩ => ⟨S4x4608x2048, .f32⟩
  | .hbm, ⟨6, _⟩ => ⟨S4x4608x8x256, .f32⟩
  | .hbm, ⟨7, _⟩ => ⟨S4x4608x1024, .f32⟩
  | .hbm, ⟨8, _⟩ => ⟨S4x4608x8x128, .f32⟩
  | .hbm, ⟨9, _⟩ => ⟨S4x8x4096x4608, .f32⟩
  | .hbm, ⟨10, _⟩ => ⟨S_, .f32⟩
  | .hbm, ⟨11, _⟩ => ⟨S_, .f32⟩
  | .hbm, ⟨12, _⟩ => ⟨S4x8x4096x4608, .f32⟩
  | .hbm, ⟨13, _⟩ => ⟨S4x8x4096x4608, .f32⟩
  | .hbm, ⟨14, _⟩ => ⟨S_, .f32⟩
  | .hbm, ⟨15, _⟩ => ⟨S4x8x4096, .f32⟩
  | .hbm, ⟨16, _⟩ => ⟨S_, .f32⟩
  | .hbm, ⟨17, _⟩ => ⟨S4x8x4096, .f32⟩
  | .hbm, ⟨18, _⟩ => ⟨S4x8x4096, .f32⟩
  | .hbm, ⟨19, _⟩ => ⟨S4x8x4096x1, .f32⟩
  | .hbm, ⟨20, _⟩ => ⟨S4x8x4096x4608, .f32⟩
  | .hbm, ⟨21, _⟩ => ⟨S4x8x4096x4608, .f32⟩
  | .hbm, ⟨22, _⟩ => ⟨S4x8x4096x4608, .f32⟩
  | .hbm, ⟨23, _⟩ => ⟨S_, .f32⟩
  | .hbm, ⟨24, _⟩ => ⟨S4x8x4096, .f32⟩
  | .hbm, ⟨25, _⟩ => ⟨S4x8x4096x1, .f32⟩
  | .hbm, ⟨26, _⟩ => ⟨S4x8x4096x4608, .f32⟩
  | .hbm, ⟨27, _⟩ => ⟨S4x8x4096x4608, .f32⟩
  | .hbm, ⟨28, _⟩ => ⟨S4x8x128x4096, .f32⟩
  | .hbm, ⟨29, _⟩ => ⟨S4x4096x8x128, .f32⟩
  | .hbm, ⟨30, _⟩ => ⟨S4x4096x1024, .f32⟩
  | .hbm, ⟨31, _⟩ => ⟨S4x4096x1024, .bf16⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel7.lean ====
abbrev S20480x2048 : Shape := ⟨2, ![20480, 2048]⟩
abbrev S2048 : Shape := ⟨1, ![2048]⟩
abbrev S5x6x2048 : Shape := ⟨3, ![5, 6, 2048]⟩
abbrev S1x2048 : Shape := ⟨2, ![1, 2048]⟩
abbrev S512x2048 : Shape := ⟨2, ![512, 2048]⟩
abbrev S1x6x2048 : Shape := ⟨3, ![1, 6, 2048]⟩
abbrev S512 : Shape := ⟨1, ![512]⟩
abbrev S512x1 : Shape := ⟨2, ![512, 1]⟩
abbrev S1x1x2048 : Shape := ⟨3, ![1, 1, 2048]⟩

abbrev nBuf : Space → Nat
  | .hbm => 5
  | .vmem => 7
  | .smem => 0
  | _ => 0

abbrev bufTy : (tb : Table) → Fin (tcTables nBuf tb) → BufTy
  | .hbm, ⟨0, _⟩ => ⟨S20480x2048, .f32⟩
  | .hbm, ⟨1, _⟩ => ⟨S2048, .f32⟩
  | .hbm, ⟨2, _⟩ => ⟨S5x6x2048, .f32⟩
  | .hbm, ⟨3, _⟩ => ⟨S1x2048, .f32⟩
  | .hbm, ⟨4, _⟩ => ⟨S20480x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S512x2048, .bf16⟩
  | .local _ .vmem, ⟨6, _⟩ => ⟨S512x2048, .bf16⟩
  | _, _ => ⟨S20480x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S20480x2048 : Shape := ⟨2, ![20480, 2048]⟩
abbrev S2048 : Shape := ⟨1, ![2048]⟩
abbrev S5x6x2048 : Shape := ⟨3, ![5, 6, 2048]⟩
abbrev S_ : Shape := ⟨0, ![]⟩
abbrev S20480 : Shape := ⟨1, ![20480]⟩
abbrev S20480x1 : Shape := ⟨2, ![20480, 1]⟩
abbrev S1x2048 : Shape := ⟨2, ![1, 2048]⟩
abbrev S5x4096x2048 : Shape := ⟨3, ![5, 4096, 2048]⟩
abbrev S5x1x2048 : Shape := ⟨3, ![5, 1, 2048]⟩
abbrev S5x2048 : Shape := ⟨2, ![5, 2048]⟩

abbrev nBuf : Space → Nat
  | .hbm => 35
  | .vmem => 0
  | .smem => 0
  | _ => 0

abbrev bufTy : (tb : Table) → Fin (tcTables nBuf tb) → BufTy
  | .hbm, ⟨0, _⟩ => ⟨S20480x2048, .f32⟩
  | .hbm, ⟨1, _⟩ => ⟨S2048, .f32⟩
  | .hbm, ⟨2, _⟩ => ⟨S5x6x2048, .f32⟩
  | .hbm, ⟨3, _⟩ => ⟨S20480x2048, .f32⟩
  | .hbm, ⟨4, _⟩ => ⟨S_, .f32⟩
  | .hbm, ⟨5, _⟩ => ⟨S20480, .f32⟩
  | .hbm, ⟨6, _⟩ => ⟨S20480x1, .f32⟩
  | .hbm, ⟨7, _⟩ => ⟨S_, .f32⟩
  | .hbm, ⟨8, _⟩ => ⟨S20480x1, .f32⟩
  | .hbm, ⟨9, _⟩ => ⟨S20480x1, .f32⟩
  | .hbm, ⟨10, _⟩ => ⟨S_, .f32⟩
  | .hbm, ⟨11, _⟩ => ⟨S20480x1, .f32⟩
  | .hbm, ⟨12, _⟩ => ⟨S20480x1, .f32⟩
  | .hbm, ⟨13, _⟩ => ⟨S20480x1, .f32⟩
  | .hbm, ⟨14, _⟩ => ⟨S20480x2048, .f32⟩
  | .hbm, ⟨15, _⟩ => ⟨S20480x2048, .f32⟩
  | .hbm, ⟨16, _⟩ => ⟨S1x2048, .f32⟩
  | .hbm, ⟨17, _⟩ => ⟨S20480x2048, .f32⟩
  | .hbm, ⟨18, _⟩ => ⟨S20480x2048, .f32⟩
  | .hbm, ⟨19, _⟩ => ⟨S5x4096x2048, .f32⟩
  | .hbm, ⟨20, _⟩ => ⟨S5x1x2048, .f32⟩
  | .hbm, ⟨21, _⟩ => ⟨S5x2048, .f32⟩
  | .hbm, ⟨22, _⟩ => ⟨S5x1x2048, .f32⟩
  | .hbm, ⟨23, _⟩ => ⟨S_, .f32⟩
  | .hbm, ⟨24, _⟩ => ⟨S5x1x2048, .f32⟩
  | .hbm, ⟨25, _⟩ => ⟨S5x1x2048, .f32⟩
  | .hbm, ⟨26, _⟩ => ⟨S5x4096x2048, .f32⟩
  | .hbm, ⟨27, _⟩ => ⟨S5x4096x2048, .f32⟩
  | .hbm, ⟨28, _⟩ => ⟨S5x1x2048, .f32⟩
  | .hbm, ⟨29, _⟩ => ⟨S5x2048, .f32⟩
  | .hbm, ⟨30, _⟩ => ⟨S5x1x2048, .f32⟩
  | .hbm, ⟨31, _⟩ => ⟨S5x4096x2048, .f32⟩
  | .hbm, ⟨32, _⟩ => ⟨S5x4096x2048, .f32⟩
  | .hbm, ⟨33, _⟩ => ⟨S20480x2048, .f32⟩
  | .hbm, ⟨34, _⟩ => ⟨S20480x2048, .bf16⟩
  | _, _ => ⟨S20480x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Kernel8.lean ====
abbrev S22528x512 : Shape := ⟨2, ![22528, 512]⟩
abbrev S512x2048 : Shape := ⟨2, ![512, 2048]⟩
abbrev S22528x2048 : Shape := ⟨2, ![22528, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S22528x512, .f32⟩
  | .hbm, ⟨1, _⟩ => ⟨S512x2048, .f32⟩
  | .hbm, ⟨2, _⟩ => ⟨S512x2048, .bf16⟩
  | .hbm, ⟨3, _⟩ => ⟨S22528x2048, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S22528x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![22, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S22528x512 : Shape := ⟨2, ![22528, 512]⟩
abbrev S512x2048 : Shape := ⟨2, ![512, 2048]⟩
abbrev S22528x2048 : Shape := ⟨2, ![22528, 2048]⟩

abbrev nBuf : Space → Nat
  | .hbm => 3
  | .vmem => 0
  | .smem => 0
  | _ => 0

abbrev bufTy : (tb : Table) → Fin (tcTables nBuf tb) → BufTy
  | .hbm, ⟨0, _⟩ => ⟨S22528x512, .f32⟩
  | .hbm, ⟨1, _⟩ => ⟨S512x2048, .f32⟩
  | .hbm, ⟨2, _⟩ => ⟨S22528x2048, .f32⟩
  | _, _ => ⟨S22528x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Moe.Setup.lean ====
/- What the run of the experts' kernel is stated over: the buffers when its region is entered, the two prefetched
   tables, the windows' blocks, the staging memrefs, and where the output is written back. The set-up follows the
   form the library's launch theorem takes. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp
public import Idealize.ShloMosaic.Lib.Pipeline.Value
public import Idealize.ShloMosaic.Lib.VecWindow

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S192 .i32 := Memref.whole main_arg1
abbrev htbM0_0 : tbM0_0.IsWhole := Memref.isWhole_whole _
abbrev tbM0_1 : Memref sig .tc .smem S1 .i32 := Memref.whole main_arg2
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body , table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) h

/-! ## The staging memrefs -/

/-- Each window's current staging memref at point `t`, spelled as the pipeline passes it (`bodyAt0`), and its wholeness. -/
abbrev ms0_0 (hO : Ok m) (t : Fin (cfgM m hO).N) : Memref sig .tc .vmem S512x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048x512 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2048x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x512 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x512 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x512x2048 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x2048 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S512x2048 .f32 := spec0_7.stage ((cfgM m hO).slots t 7)
abbrev hs0_7 (hO : Ok m) (t : Fin (cfgM m hO).N) : (ms0_7 m hO t).IsWhole := hstage0_7 (((cfgM m hO).slots t 7).cast nbuf0_7)

/-! ## Where the output is written back, and the body's conditions -/

/-- The output window is written back at the last of each block's four points, whatever the tables hold. -/
theorem flush0_7 (a : (pcfg0 (F := F)).Adm) : ∀ t : Fin (cfg0 a).N, ((cfg0 a).win 7).flush t = true ↔ t.val % 4 = 3 :=
  (fun t => Pipeline.Window.flushOf_reads cc0_transform_7 reads0_7 hreads0_7 0 (by decide) (by decide) (Pipeline.Window.sep_of_coord cc0_transform_7 0 0 (fun _ => rfl) (by decide)) (P := 4) (m := 3) (by decide) rfl t : ∀ t : Fin grid0.N, Pipeline.Window.flushOf grid0 true cc0_transform_7 t = true ↔ t.val % 4 = 3)

/-- The kernel's body at point `t`, on the memrefs the pipeline hands it. -/
abbrev bodyAt0 (a : (pcfg0 (F := F)).Adm) (t : Fin (cfg0 a).N) : Prog (TpuEff nD τ sig (Elt F) Λ₀ .tc) PUnit :=
  cc0_moe_experts (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7))

/-- The number of blocks in use, as the body reads it from the second table. -/
abbrev nwd {c : Dev nD} (xt1 : TbBuf0 (F := F) c tbM0_1) : BitVec 32 :=
  tbM0_1.view.readAt (Elt F) (Rect.unit (s := S1) ![0] S1.size inb_S1_S1_0).toLoadRect xt1 (Shape.Idx.first (numel1_S1.symm ▸ Nat.one_pos))

/-- The first of a block's four points. -/
theorem cond2_iff : ∀ t : Fin grid0.N, k0_cond2 (grid0.coords t) = 1#1 ↔ t.val % 4 = 0 := fun t => by
  have ht : t.val < 768 := Nat.lt_of_lt_of_eq t.isLt N_0
  have e1 : (grid0.coords t 1).val = t.val / 1 % 4 := Pipeline.Grid.coords_val t 1 (by decide) rfl
  simp only [k0_cond2, e1]
  word_cmp

/-- The later points of a block. -/
theorem cond3_iff : ∀ t : Fin grid0.N, k0_cond3 (grid0.coords t) = 1#1 ↔ 1 ≤ t.val % 4 := by decide +kernel

/-- The last condition: the block is not in use, and the point is its last. -/
theorem cond4_iff (v : BitVec 32) : ∀ t : Fin grid0.N, k0_cond4 (grid0.coords t) v = 1#1 ↔
    ¬ k0_cond1 (grid0.coords t) v = 1#1 ∧ t.val % 4 = 3 := fun t => by
  have ht : t.val < 768 := Nat.lt_of_lt_of_eq t.isLt N_0
  have e1 : (grid0.coords t 1).val = t.val / 1 % 4 := Pipeline.Grid.coords_val t 1 (by decide) rfl
  have h3 : Scalar.cmpi .eq (BitVec.ofNat 32 (grid0.coords t 1).val) 3#32 = 1#1 ↔ t.val % 4 = 3 := by
    simp only [e1]; word_cmp
  have key : ∀ p q : BitVec 1, Scalar.cmpi .ne (Scalar.extui (Scalar.andi (Scalar.xori p 1#1) q) : BitVec 32) 0#32 = 1#1 ↔
      ¬ Scalar.cmpi .ne (Scalar.extui p : BitVec 32) 0#32 = 1#1 ∧ q = 1#1 := by decide
  rw [← h3]
  exact key _ _

end Cert.KernelIdeal.Moe

end
-- ==== Proof.Moe.Run.lean ====
/- The kernel's body run once, case by case: what one grid point does to the output's buffer. -/
module

public import proofs.«01_k».proof.Proof.Moe.Setup

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

theorem hz2 : (![0, 0] : Fin 2 → ℕ) = fun _ => 0 := by funext a; fin_cases a <;> rfl
theorem hz3 : (![0, 0, 0] : Fin 3 → ℕ) = fun _ => 0 := by funext a; fin_cases a <;> rfl

set_option maxHeartbeats 1000000 in
/-- At the first point of a block in use the output becomes the tile's contribution plus the second bias. -/
theorem run_first (c : Dev nD) (i : grid0.Coords) (arg4 : Memref sig .tc .vmem S512x2048 .bf16) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512x2048 .bf16) (harg9 : arg9.IsWhole) (arg10 : Memref sig .tc .vmem S1x1x2048 .f32) (harg10 : arg10.IsWhole) (arg11 : Memref sig .tc .vmem S512x2048 .f32) (harg11 : arg11.IsWhole)
    (x0 : Vec F S512x2048 .bf16) (x1 : Vec F S1x2048x512 .bf16) (x2 : Vec F S1x2048x512 .bf16) (x3 : Vec F S1x1x512 .f32) (x4 : Vec F S1x1x512 .f32) (x5 : Vec F S1x512x2048 .bf16) (x6 : Vec F S1x1x2048 .f32) (xt0 : TbBuf0 (F := F) c tbM0_0) (xt1 : TbBuf0 (F := F) c tbM0_1)
    (hc1 : k0_cond1 i (nwd xt1) = 1#1) (hc2 : k0_cond2 i = 1#1) (hc3 : ¬ k0_cond3 i = 1#1) (hc4 : ¬ k0_cond4 i (nwd xt1) = 1#1)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ tbPt0 c tbM0_0 xt0 ∗ tbPt0 c tbM0_1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare (k0_pay2 (k0_pay5 x0 x1 x3 x2 x4) x5 x6) ∗ tbPt0 c tbM0_0 xt0 ∗ tbPt0 c tbM0_1 xt1) -∗ K ⟨⟩))
      ⊢ wp frame (wpE (defs₀ (F := F)) Variants.none c none) E (cc0_moe_experts i tbM0_0 htbM0_0 tbM0_1 htbM0_1 arg4 harg4 arg5 harg5 arg6 harg6 arg7 harg7 arg8 harg8 arg9 harg9 arg10 harg10 arg11 harg11) K := by
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
  sl_exec (disch := first | sl_exact hc1 | sl_exact hc2 | sl_exact hc3 | sl_exact hc4)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists _; isplitr
    swap; · iexact H7
    ipureintro
    refine (View.read_writes_full _ _ _ _ _).trans ?_
    sl_unfold_words
    simp only [View.readAt_eq_ld, harg4.read_unread, harg5.read_unread, harg6.read_unread, harg7.read_unread, harg8.read_unread, harg9.read_unread, harg10.read_unread, harg11.read_unread,
      View.ld_unit_zero (S := S512x2048) hz2, View.ld_unit_zero (S := S1x2048x512) hz3, View.ld_unit_zero (S := S1x1x512) hz3, View.ld_unit_zero (S := S1x512x2048) hz3, View.ld_unit_zero (S := S1x1x2048) hz3]
  isplitl [HT0]; · iexact HT0
  iexact HT1

set_option maxHeartbeats 1000000 in
/-- At a later point of a block in use the tile's contribution is added to what the output holds. -/
theorem run_later (c : Dev nD) (i : grid0.Coords) (arg4 : Memref sig .tc .vmem S512x2048 .bf16) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512x2048 .bf16) (harg9 : arg9.IsWhole) (arg10 : Memref sig .tc .vmem S1x1x2048 .f32) (harg10 : arg10.IsWhole) (arg11 : Memref sig .tc .vmem S512x2048 .f32) (harg11 : arg11.IsWhole)
    (x0 : Vec F S512x2048 .bf16) (x1 : Vec F S1x2048x512 .bf16) (x2 : Vec F S1x2048x512 .bf16) (x3 : Vec F S1x1x512 .f32) (x4 : Vec F S1x1x512 .f32) (x5 : Vec F S1x512x2048 .bf16) (x6 : Vec F S1x1x2048 .f32) (x7 : Vec F S512x2048 .f32) (xt0 : TbBuf0 (F := F) c tbM0_0) (xt1 : TbBuf0 (F := F) c tbM0_1)
    (hc1 : k0_cond1 i (nwd xt1) = 1#1) (hc2 : ¬ k0_cond2 i = 1#1) (hc3 : k0_cond3 i = 1#1) (hc4 : ¬ k0_cond4 i (nwd xt1) = 1#1)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ tbPt0 c tbM0_0 xt0 ∗ tbPt0 c tbM0_1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare (k0_pay3 (k0_pay5 x0 x1 x3 x2 x4) x5 x7) ∗ tbPt0 c tbM0_0 xt0 ∗ tbPt0 c tbM0_1 xt1) -∗ K ⟨⟩))
      ⊢ wp frame (wpE (defs₀ (F := F)) Variants.none c none) E (cc0_moe_experts i tbM0_0 htbM0_0 tbM0_1 htbM0_1 arg4 harg4 arg5 harg5 arg6 harg6 arg7 harg7 arg8 harg8 arg9 harg9 arg10 harg10 arg11 harg11) K := by
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7
  sl_exec (disch := first | sl_exact hc1 | sl_exact hc2 | sl_exact hc3 | sl_exact hc4)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists _; isplitr
    swap; · iexact H7
    ipureintro
    refine (View.read_writes_full _ _ _ _ _).trans ?_
    sl_unfold_words
    simp only [View.readAt_eq_ld, harg4.read_unread, harg5.read_unread, harg6.read_unread, harg7.read_unread, harg8.read_unread, harg9.read_unread, harg10.read_unread, harg11.read_unread,
      View.ld_unit_zero (S := S512x2048) hz2, View.ld_unit_zero (S := S1x2048x512) hz3, View.ld_unit_zero (S := S1x1x512) hz3, View.ld_unit_zero (S := S1x512x2048) hz3, View.ld_unit_zero (S := S1x1x2048) hz3]
  isplitl [HT0]; · iexact HT0
  iexact HT1

set_option maxHeartbeats 1000000 in
/-- At the last point of a block not in use the output is set to zero. -/
theorem run_zero (c : Dev nD) (i : grid0.Coords) (arg4 : Memref sig .tc .vmem S512x2048 .bf16) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512x2048 .bf16) (harg9 : arg9.IsWhole) (arg10 : Memref sig .tc .vmem S1x1x2048 .f32) (harg10 : arg10.IsWhole) (arg11 : Memref sig .tc .vmem S512x2048 .f32) (harg11 : arg11.IsWhole)
    (x0 : Vec F S512x2048 .bf16) (x1 : Vec F S1x2048x512 .bf16) (x2 : Vec F S1x2048x512 .bf16) (x3 : Vec F S1x1x512 .f32) (x4 : Vec F S1x1x512 .f32) (x5 : Vec F S1x512x2048 .bf16) (x6 : Vec F S1x1x2048 .f32) (xt0 : TbBuf0 (F := F) c tbM0_0) (xt1 : TbBuf0 (F := F) c tbM0_1)
    (hc1 : ¬ k0_cond1 i (nwd xt1) = 1#1) (hc4 : k0_cond4 i (nwd xt1) = 1#1)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ tbPt0 c tbM0_0 xt0 ∗ tbPt0 c tbM0_1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare (k0_pay4 (F := F)) ∗ tbPt0 c tbM0_0 xt0 ∗ tbPt0 c tbM0_1 xt1) -∗ K ⟨⟩))
      ⊢ wp frame (wpE (defs₀ (F := F)) Variants.none c none) E (cc0_moe_experts i tbM0_0 htbM0_0 tbM0_1 htbM0_1 arg4 harg4 arg5 harg5 arg6 harg6 arg7 harg7 arg8 harg8 arg9 harg9 arg10 harg10 arg11 harg11) K := by
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
  sl_exec (disch := first | sl_exact hc1 | sl_exact hc4)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists _; isplitr
    swap; · iexact H7
    ipureintro
    exact View.read_writes_full _ _ _ _ _
  isplitl [HT0]; · iexact HT0
  iexact HT1

set_option maxHeartbeats 1000000 in
/-- At the other points of a block not in use nothing is stored. -/
theorem run_idle (c : Dev nD) (i : grid0.Coords) (arg4 : Memref sig .tc .vmem S512x2048 .bf16) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512x2048 .bf16) (harg9 : arg9.IsWhole) (arg10 : Memref sig .tc .vmem S1x1x2048 .f32) (harg10 : arg10.IsWhole) (arg11 : Memref sig .tc .vmem S512x2048 .f32) (harg11 : arg11.IsWhole)
    (x0 : Vec F S512x2048 .bf16) (x1 : Vec F S1x2048x512 .bf16) (x2 : Vec F S1x2048x512 .bf16) (x3 : Vec F S1x1x512 .f32) (x4 : Vec F S1x1x512 .f32) (x5 : Vec F S1x512x2048 .bf16) (x6 : Vec F S1x1x2048 .f32) (x7 : Vec F S512x2048 .f32) (xt0 : TbBuf0 (F := F) c tbM0_0) (xt1 : TbBuf0 (F := F) c tbM0_1)
    (hc1 : ¬ k0_cond1 i (nwd xt1) = 1#1) (hc4 : ¬ k0_cond4 i (nwd xt1) = 1#1)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ tbPt0 c tbM0_0 xt0 ∗ tbPt0 c tbM0_1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ tbPt0 c tbM0_0 xt0 ∗ tbPt0 c tbM0_1 xt1) -∗ K ⟨⟩))
      ⊢ wp frame (wpE (defs₀ (F := F)) Variants.none c none) E (cc0_moe_experts i tbM0_0 htbM0_0 tbM0_1 htbM0_1 arg4 harg4 arg5 harg5 arg6 harg6 arg7 harg7 arg8 harg8 arg9 harg9 arg10 harg10 arg11 harg11) K := by
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7
  sl_exec (disch := first | sl_exact hc1 | sl_exact hc4)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists _; isplitr; · ipureintro; exact harg11.read_unread _
    iexact H7
  isplitl [HT0]; · iexact HT0
  iexact HT1

end Cert.KernelIdeal.Moe

end
-- ==== Proof.Moe.Frame.lean ====
/- The pipeline's proof data, the body obligation, the launch and the frame. At the points where nothing is stored into
   the output's buffer, the buffer is handed back as it was found. -/
module

public import proofs.«01_k».proof.Proof.Moe.Run
public import Idealize.ShloMosaic.Lib.Claim

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output's buffer holds after a point -/

/-- The tile's activations at point `t`, from the windows' blocks there. -/
def act (hO : Ok m) (c : Dev nD) (t : Fin (cfgM m hO).N) : FVec F S512x512 .bf16 :=
  k0_pay5 (iblk m hO c 0 t) (iblk m hO c 1 t) (iblk m hO c 3 t) (iblk m hO c 2 t) (iblk m hO c 4 t)

/-- The output's buffer after the point numbered `n`: in a block in use, the first contribution with the second bias, then
    each later contribution added; in a block not in use, zeros (only its last point's matter). -/
def outsAt (hO : Ok m) (c : Dev nD) : (n : ℕ) → n < (cfgM m hO).N → Vec F S512x2048 .f32
  | 0, h => if k0_cond1 (grid0.coords ⟨0, h⟩) (nwd (c := c) (tbl m 1)) = 1#1 then
      k0_pay2 (act m hO c ⟨0, h⟩) (iblk m hO c 5 ⟨0, h⟩) (iblk m hO c 6 ⟨0, h⟩) else k0_pay4 (F := F)
  | n + 1, h => if k0_cond1 (grid0.coords ⟨n + 1, h⟩) (nwd (c := c) (tbl m 1)) = 1#1 then
      (if (n + 1) % 4 = 0 then k0_pay2 (act m hO c ⟨n + 1, h⟩) (iblk m hO c 5 ⟨n + 1, h⟩) (iblk m hO c 6 ⟨n + 1, h⟩)
        else k0_pay3 (act m hO c ⟨n + 1, h⟩) (iblk m hO c 5 ⟨n + 1, h⟩) (outsAt hO c n (Nat.lt_of_succ_lt h)))
      else k0_pay4 (F := F)

/-- At the first point of a block in use. -/
theorem outsAt_first (hO : Ok m) (c : Dev nD) (t : Fin (cfgM m hO).N) (h1 : k0_cond1 (grid0.coords t) (nwd (c := c) (tbl m 1)) = 1#1)
    (h : t.val % 4 = 0) : outsAt m hO c t.val t.isLt = k0_pay2 (act m hO c t) (iblk m hO c 5 t) (iblk m hO c 6 t) := by
  obtain ⟨n, hn⟩ := t
  cases n with
  | zero => rw [outsAt]; exact if_pos h1
  | succ n => rw [outsAt]; exact (if_pos h1).trans (if_pos h)

/-- At a later point of a block in use. -/
theorem outsAt_later (hO : Ok m) (c : Dev nD) (t : Fin (cfgM m hO).N) (h1 : k0_cond1 (grid0.coords t) (nwd (c := c) (tbl m 1)) = 1#1)
    (h : ¬ t.val % 4 = 0) : outsAt m hO c t.val t.isLt
      = k0_pay3 (act m hO c t) (iblk m hO c 5 t) (outsAt m hO c (t.val - 1) (Nat.lt_of_le_of_lt (Nat.sub_le _ _) t.isLt)) := by
  obtain ⟨n, hn⟩ := t
  cases n with
  | zero => exact absurd rfl h
  | succ n => rw [outsAt]; exact (if_pos h1).trans (if_neg h)

/-- In a block not in use. -/
theorem outsAt_zero (hO : Ok m) (c : Dev nD) (t : Fin (cfgM m hO).N) (h1 : ¬ k0_cond1 (grid0.coords t) (nwd (c := c) (tbl m 1)) = 1#1) :
    outsAt m hO c t.val t.isLt = k0_pay4 (F := F) := by
  obtain ⟨n, hn⟩ := t
  cases n with
  | zero => rw [outsAt]; exact if_neg h1
  | succ n => rw [outsAt]; exact if_neg h1

/-! ## The pipeline's proof data -/

/-- The proof data: the arrays as the region finds them; after a point each input's buffer at its block and the output's at
    `outsAt`; the tables' halves pass through. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => (outsAt m hO c t.val t.isLt)
  Φ _ := iprop(Pipeline.ΦA spec0 c ∗ Pipeline.ΦT pre0 (tbl m) c)
  q _ := fullShare
  owed _ := 0

/-- The proof data's arrays are the region's. -/
theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; rfl
theorem after0_1 (hO : Ok m) (c : Dev nD) (t : Fin (cfgM m hO).N) : (dats m hO 0 c).after 1 t = iblk m hO c 1 t := by dsimp only [dats]; rfl
theorem after0_2 (hO : Ok m) (c : Dev nD) (t : Fin (cfgM m hO).N) : (dats m hO 0 c).after 2 t = iblk m hO c 2 t := by dsimp only [dats]; rfl
theorem after0_3 (hO : Ok m) (c : Dev nD) (t : Fin (cfgM m hO).N) : (dats m hO 0 c).after 3 t = iblk m hO c 3 t := by dsimp only [dats]; rfl
theorem after0_4 (hO : Ok m) (c : Dev nD) (t : Fin (cfgM m hO).N) : (dats m hO 0 c).after 4 t = iblk m hO c 4 t := by dsimp only [dats]; rfl
theorem after0_5 (hO : Ok m) (c : Dev nD) (t : Fin (cfgM m hO).N) : (dats m hO 0 c).after 5 t = iblk m hO c 5 t := by dsimp only [dats]; rfl
theorem after0_6 (hO : Ok m) (c : Dev nD) (t : Fin (cfgM m hO).N) : (dats m hO 0 c).after 6 t = iblk m hO c 6 t := by dsimp only [dats]; rfl
theorem after0_7 (hO : Ok m) (c : Dev nD) (t : Fin (cfgM m hO).N) : (dats m hO 0 c).after 7 t = outsAt m hO c t.val t.isLt := by dsimp only [dats]; rfl

theorem before0_0 (hO : Ok m) (c : Dev nD) (t : Fin (cfgM m hO).N) (d) : (dats m hO 0 c).before 0 t d = iblk m hO c 0 t :=
  before0_0_of m hO _ (A_eq m hO c 0) (fun t => after0_0 m hO c t) t d
theorem before0_1 (hO : Ok m) (c : Dev nD) (t : Fin (cfgM m hO).N) (d) : (dats m hO 0 c).before 1 t d = iblk m hO c 1 t :=
  before0_1_of m hO _ (A_eq m hO c 1) (fun t => after0_1 m hO c t) t d
theorem before0_2 (hO : Ok m) (c : Dev nD) (t : Fin (cfgM m hO).N) (d) : (dats m hO 0 c).before 2 t d = iblk m hO c 2 t :=
  before0_2_of m hO _ (A_eq m hO c 2) (fun t => after0_2 m hO c t) t d
theorem before0_3 (hO : Ok m) (c : Dev nD) (t : Fin (cfgM m hO).N) (d) : (dats m hO 0 c).before 3 t d = iblk m hO c 3 t :=
  before0_3_of m hO _ (A_eq m hO c 3) (fun t => after0_3 m hO c t) t d
theorem before0_4 (hO : Ok m) (c : Dev nD) (t : Fin (cfgM m hO).N) (d) : (dats m hO 0 c).before 4 t d = iblk m hO c 4 t :=
  before0_4_of m hO _ (A_eq m hO c 4) (fun t => after0_4 m hO c t) t d
theorem before0_5 (hO : Ok m) (c : Dev nD) (t : Fin (cfgM m hO).N) (d) : (dats m hO 0 c).before 5 t d = iblk m hO c 5 t :=
  before0_5_of m hO _ (A_eq m hO c 5) (fun t => after0_5 m hO c t) t d
theorem before0_6 (hO : Ok m) (c : Dev nD) (t : Fin (cfgM m hO).N) (d) : (dats m hO 0 c).before 6 t d = iblk m hO c 6 t :=
  before0_6_of m hO _ (A_eq m hO c 6) (fun t => after0_6 m hO c t) t d

/-! ## Where nothing is stored -/

/-- The word the idle table reads is the word the body reads. -/
theorem atD_eq (c : Dev nD) : (tbl m).atD 1 ![0] = (nwd (c := c) (tbl m 1)) := by
  unfold Pipeline.Prefetch.Contents.atD
  rw [dif_pos (by intro a; fin_cases a; decide)]
  exact congrArg (tbl m 1) (funext fun a => Fin.ext (by fin_cases a; rfl))

/-- The pipeline's idle table is the printed one. -/
theorem idle_fun (hO : Ok m) : (cfgM m hO).idle = idle0 (tbl m) := id rfl

/-- The output's buffer is stored nowhere at a point exactly when none of the three stores' conditions holds. -/
theorem idle_eq (hO : Ok m) (c : Dev nD) (i : grid0.Coords) : (cfgM m hO).idle 7 i
    = (!(k0_cond1 i (nwd (c := c) (tbl m 1)) == 1#1 && k0_cond2 i == 1#1) && !(k0_cond1 i (nwd (c := c) (tbl m 1)) == 1#1 && k0_cond3 i == 1#1) && !(k0_cond4 i (nwd (c := c) (tbl m 1)) == 1#1)) := by
  rw [← atD_eq m c]
  exact congrFun (congrFun (idle_fun m hO) 7) i

/-- The output's buffer is stored at the points of a block in use, -/
theorem idle_active (hO : Ok m) (c : Dev nD) (t : Fin (cfgM m hO).N) (h1 : k0_cond1 (grid0.coords t) (nwd (c := c) (tbl m 1)) = 1#1) :
    (cfgM m hO).idle 7 ((cfgM m hO).grid.coords t) = false := by
  rw [idle_eq m hO c, h1]
  by_cases h : t.val % 4 = 0
  · rw [(cond2_iff t).mpr h]; rfl
  · rw [(cond3_iff t).mpr (by omega)]; simp

/-- and at the last point of a block not in use, -/
theorem idle_zero (hO : Ok m) (c : Dev nD) (t : Fin (cfgM m hO).N) (h4 : k0_cond4 (grid0.coords t) (nwd (c := c) (tbl m 1)) = 1#1) :
    (cfgM m hO).idle 7 ((cfgM m hO).grid.coords t) = false := by
  rw [idle_eq m hO c, h4]
  simp

/-- and at no other point. -/
theorem idle_idle (hO : Ok m) (c : Dev nD) (t : Fin (cfgM m hO).N) (h1 : ¬ k0_cond1 (grid0.coords t) (nwd (c := c) (tbl m 1)) = 1#1)
    (h4 : ¬ k0_cond4 (grid0.coords t) (nwd (c := c) (tbl m 1)) = 1#1) : (cfgM m hO).idle 7 ((cfgM m hO).grid.coords t) = true := by
  rw [idle_eq m hO c, beq_eq_false_iff_ne.mpr h1, beq_eq_false_iff_ne.mpr h4]
  rfl

/-- The first condition is the same at the four points of a block. -/
theorem cond1_pred (v : BitVec 32) (t s : Fin grid0.N) (h : t.val / 4 = s.val / 4) :
    k0_cond1 (grid0.coords t) v = k0_cond1 (grid0.coords s) v := by
  have e0 : (grid0.coords t 0).val = t.val / 4 % 192 := Pipeline.Grid.coords_val t 0 (by decide) rfl
  have e1 : (grid0.coords s 0).val = s.val / 4 % 192 := Pipeline.Grid.coords_val s 0 (by decide) rfl
  unfold k0_cond1
  rw [e0, e1, h]

/-- At a later point of a block in use the output's buffer holds what the point before left. -/
theorem before0_7 (hO : Ok m) (c : Dev nD) (t : Fin (cfgM m hO).N) (h1 : k0_cond1 (grid0.coords t) (nwd (c := c) (tbl m 1)) = 1#1) (h : ¬ t.val % 4 = 0) (d) :
    (dats m hO 0 c).before 7 t d = outsAt m hO c (t.val - 1) (Nat.lt_of_le_of_lt (Nat.sub_le _ _) t.isLt) := by
  have hN : t.val < 768 := lt_of_lt_of_eq t.isLt (show (cfgM m hO).N = 768 from N_0)
  have hlive := idle_active m hO c ⟨t.val - 1, Nat.lt_of_le_of_lt (Nat.sub_le _ _) t.isLt⟩
    ((cond1_pred _ ⟨t.val - 1, Nat.lt_of_le_of_lt (Nat.sub_le _ _) t.isLt⟩ t (by dsimp only; omega)).trans h1)
  have hfl : ((cfgM m hO).win 7).flush ⟨t.val - 1, Nat.lt_of_le_of_lt (Nat.sub_le _ _) t.isLt⟩ = false :=
    Bool.eq_false_iff.mpr fun h => by have := (flush0_7 (adm m hO) _).mp h; dsimp only at this; omega
  rw [(dats m hO 0 c).before_of_pos 7 t (by omega) (((cfgM m hO).win 7).fetch_out rfl t), hfl, if_neg Bool.false_ne_true]
  unfold Dat.left
  rw [hlive]
  unfold Dat.kept
  dsimp only
  rw [Pipeline.fill_of_clip_none 7 _ (fun _ => rfl) d ((dats m hO 0 c).after 7 _), Window.fill_cut, after0_7]

/-! ## The body obligation, at a generic point -/

/-- What the body is called with at point `t`, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

/-- The output's buffer as the body returns it: what it left, or, where nothing was stored and the buffer is not written back,
    what it held. -/
def post7 (hO : Ok m) (c : Dev nD) (t : Fin (cfgM m hO).N) : sProp 𝕄 :=
  match (cfgM m hO).idle 7 ((cfgM m hO).grid.coords t) with
  | true =>
    match ((cfgM m hO).win 7).flush t with
    | false => iprop(∃ d, owns (c : Thread nD τ) (ms0_7 m hO t) fullShare ((dats m hO 0 c).before 7 t d))
    | true => owns (c : Thread nD τ) (ms0_7 m hO t) fullShare ((dats m hO 0 c).after 7 t)
  | false => owns (c : Thread nD τ) (ms0_7 m hO t) fullShare ((dats m hO 0 c).after 7 t)

theorem post7_live (hO : Ok m) (c : Dev nD) (t : Fin (cfgM m hO).N) (h : (cfgM m hO).idle 7 ((cfgM m hO).grid.coords t) = false) :
    post7 m hO c t = owns (c : Thread nD τ) (ms0_7 m hO t) fullShare (outsAt m hO c t.val t.isLt) := by
  unfold post7; rw [h, after0_7]

theorem post7_idle (hO : Ok m) (c : Dev nD) (t : Fin (cfgM m hO).N) (h : (cfgM m hO).idle 7 ((cfgM m hO).grid.coords t) = true)
    (hf : ((cfgM m hO).win 7).flush t = false) :
    post7 m hO c t = iprop(∃ d, owns (c : Thread nD τ) (ms0_7 m hO t) fullShare ((dats m hO 0 c).before 7 t d)) := by
  unfold post7; rw [h, hf]

/-- and what it returns: where nothing was stored into the output's buffer and it is not written back, what it held. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ post7 m hO c t)

set_option maxHeartbeats 1600000 in
/-- The body at any point: the case the point is in decides which run applies. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  have hN : t.val < 768 := lt_of_lt_of_eq t.isLt (show (cfgM m hO).N = 768 from N_0)
  unfold bodyPre bodyPost bodyAt0
  simp only [before0_0, before0_1, before0_2, before0_3, before0_4, before0_5, before0_6]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6]
  rw [show (dats m hO 0 c).Φ t.castSucc = iprop(Pipeline.ΦA spec0 c ∗ Pipeline.ΦT pre0 (tbl m) c) from rfl, PhiT0_eq]
  by_cases h1 : k0_cond1 (grid0.coords t) (nwd (c := c) (tbl m 1)) = 1#1
  · have hc4 : ¬ k0_cond4 (grid0.coords t) (nwd (c := c) (tbl m 1)) = 1#1 := fun h => ((cond4_iff _ t).mp h).1 h1
    rw [post7_live m hO c t (idle_active m hO c t h1)]
    by_cases h : t.val % 4 = 0
    · rw [outsAt_first m hO c t h1 h]
      iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_first c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) h1 ((cond2_iff t).mpr h) (fun h' => by have := (cond3_iff t).mp h'; omega) hc4 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HT0]; · iexact HT0
      isplitl [HT1]; · iexact HT1
      iintro ⟨H0, H1, H2, H3, H4, H5, H6, H7, HT0, HT1⟩
      isplitl [HΦ HT0 HT1]
      · isplitl [HΦ]
        · iexact HΦ
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · simp only [before0_7 m hO c t h1 h]
      rw [outsAt_later m hO c t h1 h]
      iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_later c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) (outsAt m hO c (t.val - 1) (Nat.lt_of_le_of_lt (Nat.sub_le _ _) t.isLt)) (tbl m 0) (tbl m 1) h1 (fun h' => h ((cond2_iff t).mp h')) ((cond3_iff t).mpr (by omega)) hc4 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HT0]; · iexact HT0
      isplitl [HT1]; · iexact HT1
      iintro ⟨H0, H1, H2, H3, H4, H5, H6, H7, HT0, HT1⟩
      isplitl [HΦ HT0 HT1]
      · isplitl [HΦ]
        · iexact HΦ
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · by_cases h4 : k0_cond4 (grid0.coords t) (nwd (c := c) (tbl m 1)) = 1#1
    · rw [post7_live m hO c t (idle_zero m hO c t h4), outsAt_zero m hO c t h1]
      iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_zero c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) h1 h4 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HT0]; · iexact HT0
      isplitl [HT1]; · iexact HT1
      iintro ⟨H0, H1, H2, H3, H4, H5, H6, H7, HT0, HT1⟩
      isplitl [HΦ HT0 HT1]
      · isplitl [HΦ]
        · iexact HΦ
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hfl : ((cfgM m hO).win 7).flush t = false :=
        Bool.eq_false_iff.mpr fun h => h4 ((cond4_iff _ t).mpr ⟨h1, (flush0_7 (adm m hO) t).mp h⟩)
      rw [post7_idle m hO c t (idle_idle m hO c t h1 h4) hfl]
      iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_idle c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) ((dats m hO 0 c).before 7 t d7) (tbl m 0) (tbl m 1) h1 h4 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HT0]; · iexact HT0
      isplitl [HT1]; · iexact HT1
      iintro ⟨H0, H1, H2, H3, H4, H5, H6, H7, HT0, HT1⟩
      isplitl [HΦ HT0 HT1]
      · isplitl [HΦ]
        · iexact HΦ
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists d7; iexact H7

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 1600000 in
/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

set_option backward.isDefEq.respectTransparency.types false in
/-- The launch: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- The frame: every run ends, the arguments end unchanged, and every semaphore counter ends at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.KernelIdeal.Moe

end
-- ==== Proof.Moe.Pre.lean ====
/- From the precondition `ranges` to the pipeline's side condition: every expert word names an expert and the count of
   blocks in use is between 1 and 192, so every block that an index map names lies inside its array. The index maps'
   closed forms, over the tables read as natural numbers, are proved on the way; the value proof reads them again. -/
module

public import proofs.«01_k».proof.Proof.Moe.Frame
public import proofs.«01_k».proof.Proof.Gen.Pre_ranges
public import proofs.«01_k».proof.Defs
public import Idealize.ShloMosaic.Lib.WordCmp
public import Idealize.ShloMosaic.Lib.WordArith
public import Idealize.ShloMosaic.Lib.Affine
public import Idealize.ShloMosaic.Lib.ReduceAll

@[expose] public section

set_option maxRecDepth 16384

noncomputable section

namespace Cert.KernelIdeal.Moe

open Cert.KernelIdeal.Gen
open Idealize.ShloMosaic Idealize.ShloMosaic.TcCoe

variable {F : FTy → Type} [FloatOps F]

/-- A block's place in the table of experts, and the one place of the count's table. -/
def i192 (b : Fin 192) : S192.Idx := fun a => ⟨b.val, by obtain rfl : a = 0 := Subsingleton.elim _ _; exact b.isLt⟩
def i1 : S1.Idx := fun a => ⟨0, by obtain rfl : a = 0 := Subsingleton.elim _ _; exact Nat.one_pos⟩

/-- The expert that table 0 names for block `b`. -/
def ew (pf : pre0.Contents (Elt F)) (b : Fin 192) : Nat := BitVec.toNat ((show IVec S192 32 from pf 0) (i192 b))
/-- The count of blocks in use, table 1's one word. -/
def nu (pf : pre0.Contents (Elt F)) : Nat := BitVec.toNat ((show IVec S1 32 from pf 1) i1)

/-- What the precondition says of the tables, in natural numbers. -/
structure Rng (pf : pre0.Contents (Elt F)) : Prop where
  ex : ∀ b : Fin 192, ew pf b < 32
  pos : 1 ≤ nu pf
  le : nu pf ≤ 192

/-! ## The words the index maps read -/

/-- Table 0's word at a block's coordinate. -/
theorem at0 (pf : pre0.Contents (Elt F)) (i : grid0.Coords) (h : ∀ a, (![(Scalar.indexCast (BitVec.ofNat 32 (i 0).val)).toNat] : Fin 1 → Nat) a + S1.size a ≤ S192.size a) :
    BitVec.toNat (pf.at 0 (Rect.unit (s := S192) ![(Scalar.indexCast (BitVec.ofNat 32 (i 0).val)).toNat] S1.size h) numel1_S1 : BitVec 32) = ew pf (i 0) := by
  unfold ew
  congr 1
  show pf 0 _ = pf 0 _
  congr 1
  funext a
  change Fin 1 at a
  obtain rfl : a = 0 := Subsingleton.elim _ _
  apply Fin.ext
  have hi : (i 0).val < 192 := (i 0).isLt
  show (Scalar.indexCast (BitVec.ofNat 32 (i 0).val)).toNat + 1 * 0 = (i 0).val
  simp only [Scalar.indexCast, BitVec.setWidth_eq, BitVec.toNat_ofNat]
  omega

/-- Table 1's word. -/
theorem at1 (pf : pre0.Contents (Elt F)) (h : ∀ a, (![0] : Fin 1 → Nat) a + S1.size a ≤ S1.size a) :
    BitVec.toNat (pf.at 1 (Rect.unit (s := S1) ![0] S1.size h) numel1_S1 : BitVec 32) = nu pf := by
  unfold nu
  congr 1
  show pf 1 _ = pf 1 _
  congr 1
  funext a
  change Fin 1 at a
  obtain rfl : a = 0 := Subsingleton.elim _ _
  apply Fin.ext
  show 0 + 1 * 0 = 0
  rfl

/-- The block index along the hidden features: the grid's second coordinate while the block is in use, else the last. -/
def fx (pf : pre0.Contents (Elt F)) (i : grid0.Coords) : Nat := if (i 0).val < nu pf then (i 1).val else 3

theorem fx_lt (pf : pre0.Contents (Elt F)) (i : grid0.Coords) : fx pf i < 4 := by
  have h1 : (i 1).val < 4 := (i 1).isLt
  unfold fx; split <;> omega

theorem fx_word (pf : pre0.Contents (Elt F)) (hR : Rng pf) (i : grid0.Coords) (w : BitVec 32) (hw : w.toNat = nu pf) :
    BitVec.toNat (Scalar.select (Scalar.cmpi .slt (BitVec.ofNat 32 (i 0).val) w) (BitVec.ofNat 32 (i 1).val) 3#32) = fx pf i := by
  have h0 : (i 0).val < 192 := (i 0).isLt
  have h1 : (i 1).val < 4 := (i 1).isLt
  have hle := hR.le
  have ew' : w = BitVec.ofNat 32 (nu pf) := by rw [← hw]; simp
  have hc : Scalar.cmpi .slt (BitVec.ofNat 32 (i 0).val) w = 1#1 ↔ (i 0).val < nu pf := by
    rw [ew']; exact WordCmp.cmpi_slt_ofNat_eq_one_iff (by omega) (by omega)
  unfold fx
  by_cases hlt : (i 0).val < nu pf
  · rw [hc.2 hlt, if_pos hlt]
    show (BitVec.ofNat 32 (i 1).val).toNat = _
    rw [BitVec.toNat_ofNat]; omega
  · have h0' : Scalar.cmpi .slt (BitVec.ofNat 32 (i 0).val) w = 0#1 := by
      have := fun h => hlt (hc.1 h)
      revert this
      generalize Scalar.cmpi .slt (BitVec.ofNat 32 (i 0).val) w = z
      revert z; decide
    rw [h0', if_neg hlt]; rfl

/-! ## The index maps in closed form -/

theorem ix_x (pf : pre0.Contents (Elt F)) (hR : Rng pf) (i : grid0.Coords) :
    cc0_transform_0 inb_S1_S1_0 numel1_S1 pf i = ![min (i 0).val (nu pf - 1), 0] := by
  unfold cc0_transform_0
  have h := at1 pf inb_S1_S1_0
  have h0 : (i 0).val < 192 := (i 0).isLt
  have hle := hR.le
  have hpos := hR.pos
  have : BitVec.toNat (Scalar.minsi (BitVec.ofNat 32 (i 0).val) (Scalar.subi (show BitVec 32 from pf.at 1 (Rect.unit (s := S1) ![0] S1.size inb_S1_S1_0) numel1_S1) 1#32)) = min (i 0).val (nu pf - 1) := by
    revert h
    generalize (pf.at 1 (Rect.unit (s := S1) ![0] S1.size inb_S1_S1_0) numel1_S1) = w
    change BitVec 32 at w
    intro h
    have hs : (Scalar.subi w 1#32).toNat = nu pf - 1 := by
      show (w - 1#32).toNat = _
      rw [BitVec.toNat_sub, h]; show (2 ^ 32 - 1 + nu pf) % 2 ^ 32 = _; omega
    show (IntOp.minsi (BitVec.ofNat 32 (i 0).val) (Scalar.subi w 1#32)).toNat = _
    rw [WordArith.toNat_minsi_of_lt _ _ (by rw [BitVec.toNat_ofNat]; omega) (by rw [hs]; omega), hs, BitVec.toNat_ofNat]
    congr 1; omega
  exact congrArg (fun n => (![n, 0] : Fin 2 → Nat)) this

theorem ix_w (pf : pre0.Contents (Elt F)) (hR : Rng pf) (i : grid0.Coords) :
    cc0_transform_1 k0_off1_inb numel1_S1 inb_S1_S1_0 pf i = ![ew pf (i 0), 0, fx pf i] :=
  congrArg₂ (fun a b => (![a, 0, b] : Fin 3 → Nat)) (at0 pf i _) (fx_word pf hR i _ (at1 pf _))

theorem ix_w2 (pf : pre0.Contents (Elt F)) (hR : Rng pf) (i : grid0.Coords) :
    cc0_transform_2 k0_off1_inb numel1_S1 inb_S1_S1_0 pf i = ![ew pf (i 0), 0, fx pf i] :=
  congrArg₂ (fun a b => (![a, 0, b] : Fin 3 → Nat)) (at0 pf i _) (fx_word pf hR i _ (at1 pf _))

theorem ix_b (pf : pre0.Contents (Elt F)) (hR : Rng pf) (i : grid0.Coords) :
    cc0_transform_3 k0_off1_inb numel1_S1 inb_S1_S1_0 pf i = ![ew pf (i 0), 0, fx pf i] :=
  congrArg₂ (fun a b => (![a, 0, b] : Fin 3 → Nat)) (at0 pf i _) (fx_word pf hR i _ (at1 pf _))

theorem ix_b2 (pf : pre0.Contents (Elt F)) (hR : Rng pf) (i : grid0.Coords) :
    cc0_transform_4 k0_off1_inb numel1_S1 inb_S1_S1_0 pf i = ![ew pf (i 0), 0, fx pf i] :=
  congrArg₂ (fun a b => (![a, 0, b] : Fin 3 → Nat)) (at0 pf i _) (fx_word pf hR i _ (at1 pf _))

theorem ix_d (pf : pre0.Contents (Elt F)) (hR : Rng pf) (i : grid0.Coords) :
    cc0_transform_5 k0_off1_inb numel1_S1 inb_S1_S1_0 pf i = ![ew pf (i 0), fx pf i, 0] :=
  congrArg₂ (fun a b => (![a, b, 0] : Fin 3 → Nat)) (at0 pf i _) (fx_word pf hR i _ (at1 pf _))

theorem ix_e (pf : pre0.Contents (Elt F)) (i : grid0.Coords) :
    cc0_transform_6 k0_off1_inb numel1_S1 pf i = ![ew pf (i 0), 0, 0] :=
  congrArg (fun a => (![a, 0, 0] : Fin 3 → Nat)) (at0 pf i _)

/-! ## The side condition -/

/-- A block whose rows are a whole number of word rows is word-exact. -/
theorem ww {s : Shape} (p : Nat) (size ix : Fin s.rank → Nat) (h : ∀ a, (ix a + 1) * size a ≤ s.size a) (h2 : 2 ≤ s.rank)
    (hd : p ∣ size (s.rowAx h2)) : (Rect.block (s := s) size ix h).WholeWords p :=
  .inl (.inr ⟨h2, rfl, .inl ⟨Dvd.dvd.mul_left hd _, hd⟩⟩)

/-- In range, every block lies inside its array and moves whole words. -/
theorem ok_of_rng (pf : pre0.Contents (Elt F)) (hR : Rng pf) : ok0 pf := by
  have hle := hR.le
  have hpos := hR.pos
  unfold ok0
  refine ⟨fun i => ?_, fun i => ?_, fun i => ?_, fun i => ?_, fun i => ?_, fun i => ?_, fun i => ?_⟩
  all_goals
    have h0 : (i 0).val < 192 := (i 0).isLt
    have hf := fx_lt pf i
    have he := hR.ex (i 0)
  · rw [ix_x pf hR]
    refine ⟨fun a => ?_, .inr (ww _ _ _ _ (by decide) (by decide))⟩
    fin_cases a
    · show (min (i 0).val (nu pf - 1) + 1) * 512 ≤ 98304; omega
    · show (0 + 1) * 2048 ≤ 2048; omega
  · rw [ix_w pf hR]
    refine ⟨fun a => ?_, .inr (ww _ _ _ _ (by decide) (by decide))⟩
    fin_cases a
    · show (ew pf (i 0) + 1) * 1 ≤ 32; omega
    · show (0 + 1) * 2048 ≤ 2048; omega
    · show (fx pf i + 1) * 512 ≤ 2048; omega
  · rw [ix_w2 pf hR]
    refine ⟨fun a => ?_, .inr (ww _ _ _ _ (by decide) (by decide))⟩
    fin_cases a
    · show (ew pf (i 0) + 1) * 1 ≤ 32; omega
    · show (0 + 1) * 2048 ≤ 2048; omega
    · show (fx pf i + 1) * 512 ≤ 2048; omega
  · rw [ix_b pf hR]
    refine ⟨fun a => ?_, .inl rfl⟩
    fin_cases a
    · show (ew pf (i 0) + 1) * 1 ≤ 32; omega
    · show (0 + 1) * 1 ≤ 1; omega
    · show (fx pf i + 1) * 512 ≤ 2048; omega
  · rw [ix_b2 pf hR]
    refine ⟨fun a => ?_, .inl rfl⟩
    fin_cases a
    · show (ew pf (i 0) + 1) * 1 ≤ 32; omega
    · show (0 + 1) * 1 ≤ 1; omega
    · show (fx pf i + 1) * 512 ≤ 2048; omega
  · rw [ix_d pf hR]
    refine ⟨fun a => ?_, .inr (ww _ _ _ _ (by decide) (by decide))⟩
    fin_cases a
    · show (ew pf (i 0) + 1) * 1 ≤ 32; omega
    · show (fx pf i + 1) * 512 ≤ 2048; omega
    · show (0 + 1) * 2048 ≤ 2048; omega
  · rw [ix_e pf]
    refine ⟨fun a => ?_, .inl rfl⟩
    fin_cases a
    · show (ew pf (i 0) + 1) * 1 ≤ 32; omega
    · show (0 + 1) * 1 ≤ 1; omega
    · show (0 + 1) * 2048 ≤ 2048; omega

/-- The precondition on the argument words gives the range. -/
theorem rng_of_pre (x0 x1 x2 x3 x4 x5 x6) (h : Cert.Pre_ranges.fn (F := F) x0 x1 x2 x3 x4 x5 x6 = fun _ => 1#1) :
    (∀ x, BitVec.toNat (x1 x) < 32) ∧ (∀ y, 1 ≤ BitVec.toNat (x2 y) ∧ BitVec.toNat (x2 y) ≤ 192) := by
  have andi_one (a b : BitVec 1) : IntOp.andi a b = 1#1 ↔ a = 1#1 ∧ b = 1#1 := by revert a b; decide
  have e := congrFun h (fun a => a.elim0)
  simp only [Cert.Pre_ranges.fn, andi, andi_one] at e
  obtain ⟨⟨⟨e0, e1⟩, e2⟩, e3⟩ := e
  refine ⟨fun x => ?_, fun y => ?_⟩
  · have a0 := IntOp.cmpi_sge.1 (Host.reduce_andi_all _ _ _ _ _ e0 x)
    have a1 := IntOp.cmpi_slt.1 (Host.reduce_andi_all _ _ _ _ _ e1 x)
    change (0#32 : BitVec 32).toInt ≤ _ at a0
    change _ < (32#32 : BitVec 32).toInt at a1
    have k0 : (0#32 : BitVec 32).toInt = 0 := rfl
    have k1 : (32#32 : BitVec 32).toInt = 32 := rfl
    rw [k0] at a0; rw [k1] at a1
    rw [BitVec.toInt_eq_toNat_cond] at a0 a1
    split at a0 <;> omega
  · have a0 := IntOp.cmpi_sge.1 (Host.reduce_andi_all _ _ _ _ _ e2 y)
    have a1 := IntOp.cmpi_sle.1 (Host.reduce_andi_all _ _ _ _ _ e3 y)
    change (1#32 : BitVec 32).toInt ≤ _ at a0
    change _ ≤ (192#32 : BitVec 32).toInt at a1
    have k0 : (1#32 : BitVec 32).toInt = 1 := rfl
    have k1 : (192#32 : BitVec 32).toInt = 192 := rfl
    rw [k0] at a0; rw [k1] at a1
    rw [BitVec.toInt_eq_toNat_cond] at a0 a1
    split at a0 <;> omega

/-- The tables in range, from the precondition at the launch memory's arguments. -/
theorem rng_of_fn (m : (ℓ : Loc nD τ sig) → Buf (Elt F) ℓ) (x0 x3 x4 x5 x6)
    (h : Cert.Pre_ranges.fn (F := F) x0 (m (((0 : Dev nD) : Thread nD τ).loc main_arg1)) (m (((0 : Dev nD) : Thread nD τ).loc main_arg2)) x3 x4 x5 x6 = fun _ => 1#1) :
    Rng (tbl m) := by
  obtain ⟨h1, h2⟩ := rng_of_pre _ _ _ _ _ _ _ h
  have e0 : tbl m 0 = m (((0 : Dev nD) : Thread nD τ).loc main_arg1) := V_main_arg1 m 0
  have e1 : tbl m 1 = m (((0 : Dev nD) : Thread nD τ).loc main_arg2) := V_main_arg2 m 0
  exact ⟨fun b => by unfold ew; rw [e0]; exact h1 _, by unfold nu; rw [e1]; exact (h2 _).1, by unfold nu; rw [e1]; exact (h2 _).2⟩

end Cert.KernelIdeal.Moe
-- ==== Proof.Moe.Spec.lean ====
/- The experts' feed-forward as one formula: what both programs compute of a row, over the extended reals. -/
module

public import Idealize.ShloMosaic.Lib.Pipeline.ValueKit
public import proofs.«01_k».proof.Proof.Gen.KernelIdeal

@[expose] public section

noncomputable section

namespace Cert.KernelIdeal.Moe

open Idealize.ShloMosaic

/-- The even and odd places of a doubled axis: the gate's and the linear part's columns. -/
abbrev ev (i : Fin 2048) : Fin 4096 := ⟨2 * i.val, by omega⟩
abbrev od (i : Fin 2048) : Fin 4096 := ⟨1 + 2 * i.val, by omega⟩

/-- The gate cut above at seven. -/
def cut (g : EReal) : EReal := min g (Ideal.ofBits .f32 1088421888#32)

/-- The clamped gated unit: the cut gate through its sigmoid, times the linear part cut on both sides plus one. -/
def acts (g l : EReal) : EReal :=
  cut g * Ideal.div 1 (1 + Ideal.exp (Ideal.ofBits .f32 3218725667#32 * cut g))
    * (min (Ideal.ofBits .f32 1088421888#32) (max (Ideal.ofBits .f32 3235905536#32) l) + 1)

/-- A gathered row's hidden value at a column of the doubled axis: its row of the first product with the first bias. -/
def hid (X : FVec Ideal S98304x2048 .bf16) (W1 : FVec Ideal S32x2048x4096 .f32) (B1 : FVec Ideal S32x4096 .f32)
    (r : Fin 98304) (e : Fin 32) (j : Fin 4096) : EReal :=
  ∑ k : Fin 2048, X (ix2 r k) * W1 (ix3 e k j) + B1 (ix2 e j)

/-- One term of the second product. -/
def term (X : FVec Ideal S98304x2048 .bf16) (W1 : FVec Ideal S32x2048x4096 .f32) (B1 : FVec Ideal S32x4096 .f32)
    (W2 : FVec Ideal S32x2048x2048 .f32) (r : Fin 98304) (e : Fin 32) (d f : Fin 2048) : EReal :=
  acts (hid X W1 B1 r e (ev f)) (hid X W1 B1 r e (od f)) * W2 (ix3 e f d)

/-- A row's output under expert `e`: the second product with the second bias. -/
def ffn (X : FVec Ideal S98304x2048 .bf16) (W1 : FVec Ideal S32x2048x4096 .f32) (B1 : FVec Ideal S32x4096 .f32)
    (W2 : FVec Ideal S32x2048x2048 .f32) (B2 : FVec Ideal S32x2048 .f32) (r : Fin 98304) (e : Fin 32) (d : Fin 2048) : EReal :=
  ∑ f : Fin 2048, term X W1 B1 W2 r e d f + B2 (ix2 e d)

end Cert.KernelIdeal.Moe
-- ==== Proof.Moe.Blocks.lean ====
/- Each window's block read at an index: the argument array at the place the block holds. -/
module

public import proofs.«01_k».proof.Proof.Moe.Frame
public import proofs.«01_k».proof.Proof.Moe.Pre
public import proofs.«01_k».proof.Proof.Moe.Spec
public import Idealize.ShloMosaic.Lib.Pipeline.ValueKit

@[expose] public section

set_option maxRecDepth 16384

noncomputable section

namespace Cert.KernelIdeal.Moe

open Cert.KernelIdeal.Gen
open Idealize.ShloMosaic Idealize.ShloMosaic.TcCoe

variable (m : (ℓ : Loc nD τ sig) → Buf (Elt Ideal) ℓ)

/-! ## The arrays the host prepares, read at an index -/

/-- The arguments at the types they are read at. -/
abbrev Xa (c : Dev nD) : FVec Ideal S98304x2048 .bf16 := m ((c : Thread nD τ).loc main_arg0)
abbrev W1a (c : Dev nD) : FVec Ideal S32x2048x4096 .f32 := m ((c : Thread nD τ).loc main_arg3)
abbrev B1a (c : Dev nD) : FVec Ideal S32x4096 .f32 := m ((c : Thread nD τ).loc main_arg4)
abbrev W2a (c : Dev nD) : FVec Ideal S32x2048x2048 .f32 := m ((c : Thread nD τ).loc main_arg5)
abbrev B2a (c : Dev nD) : FVec Ideal S32x2048 .f32 := m ((c : Thread nD τ).loc main_arg6)

/-- The first weights' even columns, as the kernel is handed them. -/
theorem V_v1 (c : Dev nD) (i : S32x2048x2048.Idx) : (show FVec Ideal S32x2048x2048 .bf16 from V m c main_v1) i = W1a m c (ix3 (i 0) (i 1) (ev (i 2))) := by
  entry_read
  pointwise
  try rfl

/-- The first weights' odd columns, as the kernel is handed them. -/
theorem V_v2 (c : Dev nD) (i : S32x2048x2048.Idx) : (show FVec Ideal S32x2048x2048 .bf16 from V m c main_v2) i = W1a m c (ix3 (i 0) (i 1) (od (i 2))) := by
  entry_read
  pointwise
  try rfl

/-- The first biases' even columns, as the kernel is handed them. -/
theorem V_v4 (c : Dev nD) (i : S32x1x2048.Idx) : (show FVec Ideal S32x1x2048 .f32 from V m c main_v4) i = B1a m c (ix2 (i 0) (ev (i 2))) := by
  entry_read
  pointwise
  try rfl

/-- The first biases' odd columns, as the kernel is handed them. -/
theorem V_v6 (c : Dev nD) (i : S32x1x2048.Idx) : (show FVec Ideal S32x1x2048 .f32 from V m c main_v6) i = B1a m c (ix2 (i 0) (od (i 2))) := by
  entry_read
  pointwise
  try rfl

/-- The second weights, as the kernel is handed them. -/
theorem V_v7 (c : Dev nD) (i : S32x2048x2048.Idx) : (show FVec Ideal S32x2048x2048 .bf16 from V m c main_v7) i = W2a m c i := by
  entry_read
  pointwise
  try rfl

/-- The second biases, as the kernel is handed them. -/
theorem V_v8 (c : Dev nD) (i : S32x1x2048.Idx) : (show FVec Ideal S32x1x2048 .f32 from V m c main_v8) i = B2a m c (ix2 (i 0) (i 2)) := by
  entry_read
  pointwise
  try rfl

/-! ## A point's place in the grid -/

theorem coord0 (t : Fin grid0.N) : (grid0.coords t 0).val = t.val / 4 % 192 := Pipeline.Grid.coords_val t 0 (by decide) rfl
theorem coord1 (t : Fin grid0.N) : (grid0.coords t 1).val = t.val / 1 % 4 := Pipeline.Grid.coords_val t 1 (by decide) rfl

/-- The row of the gathered rows that a block's row is, and the hidden feature that a slab's feature is. -/
abbrev rw' (b : Fin 192) (r : Fin 512) : Fin 98304 := ⟨b.val * 512 + r.val, by omega⟩
abbrev hf (s : Fin 4) (f : Fin 512) : Fin 2048 := ⟨s.val * 512 + f.val, by omega⟩

/-- The expert of a block. -/
abbrev exq {pf : pre0.Contents (Elt Ideal)} (hR : Rng pf) (b : Fin 192) : Fin 32 := ⟨ew pf b, hR.ex b⟩

/-! ## Where a block's index sits in its array -/

section
variable (a : (pcfg0 (F := Ideal)).Adm)

/-- The block of a point, and its slab of the hidden features. -/
abbrev bl (t : Fin grid0.N) : Fin 192 := grid0.coords t 0
abbrev st (t : Fin grid0.N) : Fin 4 := grid0.coords t 1

/-- Window 0's block index, and its index placed in the array. -/
theorem index0 (t : Fin grid0.N) : (win0 a 0).index t = cc0_transform_0 inb_S1_S1_0 numel1_S1 a.1 (grid0.coords t) := rfl
def plc0 (t : Fin grid0.N) (x : S512x2048.Idx) : S98304x2048.Idx := ((win0 a 0).blk t).view.emb x
theorem plc0_val (t : Fin grid0.N) (x : S512x2048.Idx) (k : Fin 2) :
    (plc0 a t x k).val = (win0 a 0).index t k * S512x2048.size k + (x k).val :=
  Pipeline.Window.rect_emb_val (win0 a 0) t x k rfl
theorem plc0_eq (hR : Rng a.1) (t : Fin grid0.N) (hb : (bl t).val < nu a.1) (r : Fin 512) (k : Fin 2048) :
    plc0 a t (ix2 r k) = ix2 (rw' (bl t) r) k := by
  funext z
  apply Fin.ext
  have e := plc0_val a t (ix2 r k) z
  rw [index0, ix_x a.1 hR] at e
  have hf : fx a.1 (grid0.coords t) = (st t).val := if_pos hb
  have hm : min (bl t).val (nu a.1 - 1) = (bl t).val := by omega
  change Fin 2 at z
  refine e.trans ?_
  fin_cases z
  · show min (bl t).val (nu a.1 - 1) * 512 + r.val = (bl t).val * 512 + r.val; omega
  · show 0 * 2048 + k.val = k.val; omega

/-- Window 1's block index, and its index placed in the array. -/
theorem index1 (t : Fin grid0.N) : (win0 a 1).index t = cc0_transform_1 k0_off1_inb numel1_S1 inb_S1_S1_0 a.1 (grid0.coords t) := rfl
def plc1 (t : Fin grid0.N) (x : S1x2048x512.Idx) : S32x2048x2048.Idx := ((win0 a 1).blk t).view.emb x
theorem plc1_val (t : Fin grid0.N) (x : S1x2048x512.Idx) (k : Fin 3) :
    (plc1 a t x k).val = (win0 a 1).index t k * S1x2048x512.size k + (x k).val :=
  Pipeline.Window.rect_emb_val (win0 a 1) t x k rfl
theorem plc1_eq (hR : Rng a.1) (t : Fin grid0.N) (hb : (bl t).val < nu a.1) (k : Fin 2048) (f : Fin 512) :
    plc1 a t (ix3 0 k f) = ix3 (exq hR (bl t)) k (hf (st t) f) := by
  funext z
  apply Fin.ext
  have e := plc1_val a t (ix3 0 k f) z
  rw [index1, ix_w a.1 hR] at e
  have hf : fx a.1 (grid0.coords t) = (st t).val := if_pos hb
  have hm : min (bl t).val (nu a.1 - 1) = (bl t).val := by omega
  change Fin 3 at z
  refine e.trans ?_
  fin_cases z
  · show ew a.1 (bl t) * 1 + 0 = ew a.1 (bl t); omega
  · show 0 * 2048 + k.val = k.val; omega
  · show fx a.1 (grid0.coords t) * 512 + f.val = (st t).val * 512 + f.val; omega

/-- Window 2's block index, and its index placed in the array. -/
theorem index2 (t : Fin grid0.N) : (win0 a 2).index t = cc0_transform_2 k0_off1_inb numel1_S1 inb_S1_S1_0 a.1 (grid0.coords t) := rfl
def plc2 (t : Fin grid0.N) (x : S1x2048x512.Idx) : S32x2048x2048.Idx := ((win0 a 2).blk t).view.emb x
theorem plc2_val (t : Fin grid0.N) (x : S1x2048x512.Idx) (k : Fin 3) :
    (plc2 a t x k).val = (win0 a 2).index t k * S1x2048x512.size k + (x k).val :=
  Pipeline.Window.rect_emb_val (win0 a 2) t x k rfl
theorem plc2_eq (hR : Rng a.1) (t : Fin grid0.N) (hb : (bl t).val < nu a.1) (k : Fin 2048) (f : Fin 512) :
    plc2 a t (ix3 0 k f) = ix3 (exq hR (bl t)) k (hf (st t) f) := by
  funext z
  apply Fin.ext
  have e := plc2_val a t (ix3 0 k f) z
  rw [index2, ix_w2 a.1 hR] at e
  have hf : fx a.1 (grid0.coords t) = (st t).val := if_pos hb
  have hm : min (bl t).val (nu a.1 - 1) = (bl t).val := by omega
  change Fin 3 at z
  refine e.trans ?_
  fin_cases z
  · show ew a.1 (bl t) * 1 + 0 = ew a.1 (bl t); omega
  · show 0 * 2048 + k.val = k.val; omega
  · show fx a.1 (grid0.coords t) * 512 + f.val = (st t).val * 512 + f.val; omega

/-- Window 3's block index, and its index placed in the array. -/
theorem index3 (t : Fin grid0.N) : (win0 a 3).index t = cc0_transform_3 k0_off1_inb numel1_S1 inb_S1_S1_0 a.1 (grid0.coords t) := rfl
def plc3 (t : Fin grid0.N) (x : S1x1x512.Idx) : S32x1x2048.Idx := ((win0 a 3).blk t).view.emb x
theorem plc3_val (t : Fin grid0.N) (x : S1x1x512.Idx) (k : Fin 3) :
    (plc3 a t x k).val = (win0 a 3).index t k * S1x1x512.size k + (x k).val :=
  Pipeline.Window.rect_emb_val (win0 a 3) t x k rfl
theorem plc3_eq (hR : Rng a.1) (t : Fin grid0.N) (hb : (bl t).val < nu a.1) (f : Fin 512) :
    plc3 a t (ix3 0 0 f) = ix3 (exq hR (bl t)) 0 (hf (st t) f) := by
  funext z
  apply Fin.ext
  have e := plc3_val a t (ix3 0 0 f) z
  rw [index3, ix_b a.1 hR] at e
  have hf : fx a.1 (grid0.coords t) = (st t).val := if_pos hb
  have hm : min (bl t).val (nu a.1 - 1) = (bl t).val := by omega
  change Fin 3 at z
  refine e.trans ?_
  fin_cases z
  · show ew a.1 (bl t) * 1 + 0 = ew a.1 (bl t); omega
  · show 0 * 1 + 0 = 0; omega
  · show fx a.1 (grid0.coords t) * 512 + f.val = (st t).val * 512 + f.val; omega

/-- Window 4's block index, and its index placed in the array. -/
theorem index4 (t : Fin grid0.N) : (win0 a 4).index t = cc0_transform_4 k0_off1_inb numel1_S1 inb_S1_S1_0 a.1 (grid0.coords t) := rfl
def plc4 (t : Fin grid0.N) (x : S1x1x512.Idx) : S32x1x2048.Idx := ((win0 a 4).blk t).view.emb x
theorem plc4_val (t : Fin grid0.N) (x : S1x1x512.Idx) (k : Fin 3) :
    (plc4 a t x k).val = (win0 a 4).index t k * S1x1x512.size k + (x k).val :=
  Pipeline.Window.rect_emb_val (win0 a 4) t x k rfl
theorem plc4_eq (hR : Rng a.1) (t : Fin grid0.N) (hb : (bl t).val < nu a.1) (f : Fin 512) :
    plc4 a t (ix3 0 0 f) = ix3 (exq hR (bl t)) 0 (hf (st t) f) := by
  funext z
  apply Fin.ext
  have e := plc4_val a t (ix3 0 0 f) z
  rw [index4, ix_b2 a.1 hR] at e
  have hf : fx a.1 (grid0.coords t) = (st t).val := if_pos hb
  have hm : min (bl t).val (nu a.1 - 1) = (bl t).val := by omega
  change Fin 3 at z
  refine e.trans ?_
  fin_cases z
  · show ew a.1 (bl t) * 1 + 0 = ew a.1 (bl t); omega
  · show 0 * 1 + 0 = 0; omega
  · show fx a.1 (grid0.coords t) * 512 + f.val = (st t).val * 512 + f.val; omega

/-- Window 5's block index, and its index placed in the array. -/
theorem index5 (t : Fin grid0.N) : (win0 a 5).index t = cc0_transform_5 k0_off1_inb numel1_S1 inb_S1_S1_0 a.1 (grid0.coords t) := rfl
def plc5 (t : Fin grid0.N) (x : S1x512x2048.Idx) : S32x2048x2048.Idx := ((win0 a 5).blk t).view.emb x
theorem plc5_val (t : Fin grid0.N) (x : S1x512x2048.Idx) (k : Fin 3) :
    (plc5 a t x k).val = (win0 a 5).index t k * S1x512x2048.size k + (x k).val :=
  Pipeline.Window.rect_emb_val (win0 a 5) t x k rfl
theorem plc5_eq (hR : Rng a.1) (t : Fin grid0.N) (hb : (bl t).val < nu a.1) (f : Fin 512) (d : Fin 2048) :
    plc5 a t (ix3 0 f d) = ix3 (exq hR (bl t)) (hf (st t) f) d := by
  funext z
  apply Fin.ext
  have e := plc5_val a t (ix3 0 f d) z
  rw [index5, ix_d a.1 hR] at e
  have hf : fx a.1 (grid0.coords t) = (st t).val := if_pos hb
  have hm : min (bl t).val (nu a.1 - 1) = (bl t).val := by omega
  change Fin 3 at z
  refine e.trans ?_
  fin_cases z
  · show ew a.1 (bl t) * 1 + 0 = ew a.1 (bl t); omega
  · show fx a.1 (grid0.coords t) * 512 + f.val = (st t).val * 512 + f.val; omega
  · show 0 * 2048 + d.val = d.val; omega

/-- Window 6's block index, and its index placed in the array. -/
theorem index6 (t : Fin grid0.N) : (win0 a 6).index t = cc0_transform_6 k0_off1_inb numel1_S1 a.1 (grid0.coords t) := rfl
def plc6 (t : Fin grid0.N) (x : S1x1x2048.Idx) : S32x1x2048.Idx := ((win0 a 6).blk t).view.emb x
theorem plc6_val (t : Fin grid0.N) (x : S1x1x2048.Idx) (k : Fin 3) :
    (plc6 a t x k).val = (win0 a 6).index t k * S1x1x2048.size k + (x k).val :=
  Pipeline.Window.rect_emb_val (win0 a 6) t x k rfl
theorem plc6_eq (hR : Rng a.1) (t : Fin grid0.N) (hb : (bl t).val < nu a.1) (d : Fin 2048) :
    plc6 a t (ix3 0 0 d) = ix3 (exq hR (bl t)) 0 d := by
  funext z
  apply Fin.ext
  have e := plc6_val a t (ix3 0 0 d) z
  rw [index6, ix_e a.1] at e
  have hf : fx a.1 (grid0.coords t) = (st t).val := if_pos hb
  have hm : min (bl t).val (nu a.1 - 1) = (bl t).val := by omega
  change Fin 3 at z
  refine e.trans ?_
  fin_cases z
  · show ew a.1 (bl t) * 1 + 0 = ew a.1 (bl t); omega
  · show 0 * 1 + 0 = 0; omega
  · show 0 * 2048 + d.val = d.val; omega

end

/-! ## The blocks of a point of a block in use -/

variable (hO : Ok m) (c : Dev nD)

abbrev blk0 (t : Fin (cfgM m hO).N) : FVec Ideal S512x2048 .bf16 := iblk m hO c 0 t
theorem blk0_at (hR : Rng (tbl m)) (t : Fin grid0.N) (hb : (bl t).val < nu (tbl m)) (r : Fin 512) (k : Fin 2048) :
    blk0 m hO c t (ix2 r k) = Xa m c (ix2 (rw' (bl t) r) k) := by
  have e : blk0 m hO c t (ix2 r k) = (show FVec Ideal S98304x2048 .bf16 from V m c main_arg0) (plc0 (adm m hO) t (ix2 r k)) := rfl
  refine e.trans ?_
  rw [plc0_eq (adm m hO) hR t hb]
  exact congrFun (V_main_arg0 m c) _

abbrev blk1 (t : Fin (cfgM m hO).N) : FVec Ideal S1x2048x512 .bf16 := iblk m hO c 1 t
theorem blk1_at (hR : Rng (tbl m)) (t : Fin grid0.N) (hb : (bl t).val < nu (tbl m)) (k : Fin 2048) (f : Fin 512) :
    blk1 m hO c t (ix3 0 k f) = W1a m c (ix3 (exq hR (bl t)) k (ev (hf (st t) f))) := by
  have e : blk1 m hO c t (ix3 0 k f) = (show FVec Ideal S32x2048x2048 .bf16 from V m c main_v1) (plc1 (adm m hO) t (ix3 0 k f)) := rfl
  refine e.trans ?_
  rw [plc1_eq (adm m hO) hR t hb]
  exact V_v1 m c _

abbrev blk2 (t : Fin (cfgM m hO).N) : FVec Ideal S1x2048x512 .bf16 := iblk m hO c 2 t
theorem blk2_at (hR : Rng (tbl m)) (t : Fin grid0.N) (hb : (bl t).val < nu (tbl m)) (k : Fin 2048) (f : Fin 512) :
    blk2 m hO c t (ix3 0 k f) = W1a m c (ix3 (exq hR (bl t)) k (od (hf (st t) f))) := by
  have e : blk2 m hO c t (ix3 0 k f) = (show FVec Ideal S32x2048x2048 .bf16 from V m c main_v2) (plc2 (adm m hO) t (ix3 0 k f)) := rfl
  refine e.trans ?_
  rw [plc2_eq (adm m hO) hR t hb]
  exact V_v2 m c _

abbrev blk3 (t : Fin (cfgM m hO).N) : FVec Ideal S1x1x512 .f32 := iblk m hO c 3 t
theorem blk3_at (hR : Rng (tbl m)) (t : Fin grid0.N) (hb : (bl t).val < nu (tbl m)) (f : Fin 512) :
    blk3 m hO c t (ix3 0 0 f) = B1a m c (ix2 (exq hR (bl t)) (ev (hf (st t) f))) := by
  have e : blk3 m hO c t (ix3 0 0 f) = (show FVec Ideal S32x1x2048 .f32 from V m c main_v4) (plc3 (adm m hO) t (ix3 0 0 f)) := rfl
  refine e.trans ?_
  rw [plc3_eq (adm m hO) hR t hb]
  exact V_v4 m c _

abbrev blk4 (t : Fin (cfgM m hO).N) : FVec Ideal S1x1x512 .f32 := iblk m hO c 4 t
theorem blk4_at (hR : Rng (tbl m)) (t : Fin grid0.N) (hb : (bl t).val < nu (tbl m)) (f : Fin 512) :
    blk4 m hO c t (ix3 0 0 f) = B1a m c (ix2 (exq hR (bl t)) (od (hf (st t) f))) := by
  have e : blk4 m hO c t (ix3 0 0 f) = (show FVec Ideal S32x1x2048 .f32 from V m c main_v6) (plc4 (adm m hO) t (ix3 0 0 f)) := rfl
  refine e.trans ?_
  rw [plc4_eq (adm m hO) hR t hb]
  exact V_v6 m c _

abbrev blk5 (t : Fin (cfgM m hO).N) : FVec Ideal S1x512x2048 .bf16 := iblk m hO c 5 t
theorem blk5_at (hR : Rng (tbl m)) (t : Fin grid0.N) (hb : (bl t).val < nu (tbl m)) (f : Fin 512) (d : Fin 2048) :
    blk5 m hO c t (ix3 0 f d) = W2a m c (ix3 (exq hR (bl t)) (hf (st t) f) d) := by
  have e : blk5 m hO c t (ix3 0 f d) = (show FVec Ideal S32x2048x2048 .bf16 from V m c main_v7) (plc5 (adm m hO) t (ix3 0 f d)) := rfl
  refine e.trans ?_
  rw [plc5_eq (adm m hO) hR t hb]
  exact V_v7 m c _

abbrev blk6 (t : Fin (cfgM m hO).N) : FVec Ideal S1x1x2048 .f32 := iblk m hO c 6 t
theorem blk6_at (hR : Rng (tbl m)) (t : Fin grid0.N) (hb : (bl t).val < nu (tbl m)) (d : Fin 2048) :
    blk6 m hO c t (ix3 0 0 d) = B2a m c (ix2 (exq hR (bl t)) d) := by
  have e : blk6 m hO c t (ix3 0 0 d) = (show FVec Ideal S32x1x2048 .f32 from V m c main_v8) (plc6 (adm m hO) t (ix3 0 0 d)) := rfl
  refine e.trans ?_
  rw [plc6_eq (adm m hO) hR t hb]
  exact V_v8 m c _

end Cert.KernelIdeal.Moe
-- ==== Proof.Moe.Pay.lean ====
/- What one grid point computes, read at an index over the extended reals. -/
module

public import proofs.«01_k».proof.Proof.Moe.Spec
public import proofs.«01_k».proof.Proof.Moe.Pre

@[expose] public section

set_option maxRecDepth 16384

noncomputable section

namespace Cert.KernelIdeal.Moe

open Cert.KernelIdeal.Gen
open Idealize.ShloMosaic Idealize.ShloMosaic.TcCoe

/-- The activation of a row at a hidden feature. -/
theorem pay5_at (x : FVec Ideal S512x2048 .bf16) (wg : FVec Ideal S1x2048x512 .bf16) (bg : FVec Ideal S1x1x512 .f32)
    (wl : FVec Ideal S1x2048x512 .bf16) (bl : FVec Ideal S1x1x512 .f32) (j : S512x512.Idx) :
    k0_pay5 (F := Ideal) x wg bg wl bl j
      = acts (∑ k : Fin 2048, x (ix2 (j 0) k) * wg (ix3 0 k (j 1)) + bg (ix3 0 0 (j 1)))
          (∑ k : Fin 2048, x (ix2 (j 0) k) * wl (ix3 0 k (j 1)) + bl (ix3 0 0 (j 1))) := by
  unfold acts cut
  pointwise [k0_pay5]

/-- The first contribution with the bias. -/
theorem pay2_at (a : FVec Ideal S512x512 .bf16) (w : FVec Ideal S1x512x2048 .bf16) (b : FVec Ideal S1x1x2048 .f32) (j : S512x2048.Idx) :
    k0_pay2 (F := Ideal) a w b j = ∑ f : Fin 512, a (ix2 (j 0) f) * w (ix3 0 f (j 1)) + b (ix3 0 0 (j 1)) := by
  pointwise [k0_pay2, k0_pay1]

/-- A later contribution added to the sum so far. -/
theorem pay3_at (a : FVec Ideal S512x512 .bf16) (w : FVec Ideal S1x512x2048 .bf16) (b : FVec Ideal S512x2048 .f32) (j : S512x2048.Idx) :
    k0_pay3 (F := Ideal) a w b j = b j + ∑ f : Fin 512, a (ix2 (j 0) f) * w (ix3 0 f (j 1)) := by
  pointwise [k0_pay3, k0_pay1]

/-- The zeros of a block not in use. -/
theorem pay4_at (j : S512x2048.Idx) : k0_pay4 (F := Ideal) j = (0 : EReal) := by
  pointwise [k0_pay4]

end Cert.KernelIdeal.Moe
-- ==== Proof.Moe.Value.lean ====
/- The output's buffer at the last point of a block, and the array the kernel leaves: the experts' feed-forward of the rows
of the blocks in use, zeros in the others. -/
module

public import proofs.«01_k».proof.Proof.Moe.Blocks
public import proofs.«01_k».proof.Proof.Moe.Pay

@[expose] public section

set_option maxRecDepth 16384

noncomputable section

namespace Cert.KernelIdeal.Moe

open Cert.KernelIdeal.Gen
open Idealize.ShloMosaic Idealize.ShloMosaic.TcCoe
open Idealize.ShloMosaic.Pipeline (Dat)

variable (m : (ℓ : Loc nD τ sig) → Buf (Elt Ideal) ℓ) (hO : Ok m) (c : Dev nD)

/-! ## The blocks in use -/

/-- The first condition is the comparison it is computed from. -/
theorem cond1_slt (i : grid0.Coords) (v : BitVec 32) :
    k0_cond1 i v = 1#1 ↔ Scalar.cmpi .slt (BitVec.ofNat 32 (i 0).val) v = 1#1 := by
  unfold k0_cond1
  dsimp only
  generalize Scalar.cmpi .slt (BitVec.ofNat 32 (i 0).val) v = z
  revert z; decide

/-- A point computes exactly when its block is in use. -/
theorem active_iff (hR : Rng (tbl m)) (t : Fin grid0.N) :
    k0_cond1 (grid0.coords t) (nwd (c := c) (tbl m 1)) = 1#1 ↔ (bl t).val < nu (tbl m) := by
  have h0 : (grid0.coords t 0).val < 192 := (grid0.coords t 0).isLt
  have hle := hR.le
  have hw : nwd (c := c) (tbl m 1) = BitVec.ofNat 32 (nu (tbl m)) := by
    have : nwd (c := c) (tbl m 1) = (show IVec S1 32 from tbl m 1) i1 :=
      congrArg (tbl m 1) (funext fun a => Fin.ext (by fin_cases a; rfl))
    rw [this]; unfold nu
    generalize (show IVec S1 32 from tbl m 1) i1 = v
    change BitVec 32 at v
    simp
  rw [cond1_slt, hw]
  exact WordCmp.cmpi_slt_ofNat_eq_one_iff (by omega) (by omega)

/-- The point of a block and a slab. -/
def pt (b : Fin 192) (s : Fin 4) : Fin grid0.N := ⟨4 * b.val + s.val, by rw [show grid0.N = 768 from N_0]; omega⟩
theorem bl_pt (b : Fin 192) (s : Fin 4) : bl (pt b s) = b := by
  apply Fin.ext
  rw [show (bl (pt b s)).val = (pt b s).val / 4 % 192 from coord0 _]
  show (4 * b.val + s.val) / 4 % 192 = b.val
  omega
theorem st_pt (b : Fin 192) (s : Fin 4) : st (pt b s) = s := by
  apply Fin.ext
  rw [show (st (pt b s)).val = (pt b s).val / 1 % 4 from coord1 _]
  show (4 * b.val + s.val) / 1 % 4 = s.val
  omega

/-! ## One point's contribution -/

/-- The terms of one slab of the hidden features. -/
def slab (hR : Rng (tbl m)) (b : Fin 192) (s : Fin 4) (j : S512x2048.Idx) : EReal :=
  ∑ f : Fin 512, term (Xa m c) (W1a m c) (B1a m c) (W2a m c) (rw' b (j 0)) (exq hR b) (j 1) (hf s f)

theorem act_at (hR : Rng (tbl m)) (t : Fin grid0.N) (hb : (bl t).val < nu (tbl m)) (r f : Fin 512) :
    act m hO c t (ix2 r f)
      = acts (hid (Xa m c) (W1a m c) (B1a m c) (rw' (bl t) r) (exq hR (bl t)) (ev (hf (st t) f)))
          (hid (Xa m c) (W1a m c) (B1a m c) (rw' (bl t) r) (exq hR (bl t)) (od (hf (st t) f))) := by
  unfold act hid
  refine (pay5_at (blk0 m hO c t) (blk1 m hO c t) (blk3 m hO c t) (blk2 m hO c t) (blk4 m hO c t) (ix2 r f)).trans ?_
  refine congrArg₂ acts (congrArg₂ (· + ·) (Finset.sum_congr rfl fun k _ => congrArg₂ (· * ·) ?_ ?_) ?_)
    (congrArg₂ (· + ·) (Finset.sum_congr rfl fun k _ => congrArg₂ (· * ·) ?_ ?_) ?_)
  · exact blk0_at m hO c hR t hb r k
  · exact blk1_at m hO c hR t hb k f
  · exact blk3_at m hO c hR t hb f
  · exact blk0_at m hO c hR t hb r k
  · exact blk2_at m hO c hR t hb k f
  · exact blk4_at m hO c hR t hb f

theorem contrib (hR : Rng (tbl m)) (t : Fin grid0.N) (hb : (bl t).val < nu (tbl m)) (j : S512x2048.Idx) :
    (∑ f : Fin 512, act m hO c t (ix2 (j 0) f) * blk5 m hO c t (ix3 0 f (j 1)) : EReal) = slab m c hR (bl t) (st t) j := by
  unfold slab term
  exact Finset.sum_congr rfl fun f _ => congrArg₂ (· * ·) (act_at m hO c hR t hb (j 0) f) (blk5_at m hO c hR t hb f (j 1))

/-! ## The four points of a block -/

theorem first_at (hR : Rng (tbl m)) (b : Fin 192) (hb : b.val < nu (tbl m)) (j : S512x2048.Idx) :
    outsAt m hO c (pt b 0).val (pt b 0).isLt j = slab m c hR b 0 j + B2a m c (ix2 (exq hR b) (j 1)) := by
  have e := bl_pt b 0
  have hb' : (bl (pt b 0)).val < nu (tbl m) := by rw [e]; exact hb
  rw [outsAt_first m hO c (pt b 0) ((active_iff m c hR _).2 hb') (by show (4 * b.val + 0) % 4 = 0; omega)]
  refine (pay2_at (act m hO c (pt b 0)) (blk5 m hO c (pt b 0)) (blk6 m hO c (pt b 0)) j).trans ?_
  have h6 := blk6_at m hO c hR (pt b 0) hb' (j 1)
  have hc := contrib m hO c hR (pt b 0) hb' j
  rw [e] at h6
  rw [e, st_pt] at hc
  exact congrArg₂ (· + ·) hc h6

theorem later_at (hR : Rng (tbl m)) (b : Fin 192) (hb : b.val < nu (tbl m)) (s s' : Fin 4) (hs : s'.val = s.val + 1) (j : S512x2048.Idx) :
    outsAt m hO c (pt b s').val (pt b s').isLt j = outsAt m hO c (pt b s).val (pt b s).isLt j + slab m c hR b s' j := by
  have e := bl_pt b s'
  have hb' : (bl (pt b s')).val < nu (tbl m) := by rw [e]; exact hb
  have hp : (pt b s').val - 1 = (pt b s).val := by show 4 * b.val + s'.val - 1 = 4 * b.val + s.val; omega
  rw [outsAt_later m hO c (pt b s') ((active_iff m c hR _).2 hb') (by show ¬ (4 * b.val + s'.val) % 4 = 0; omega)]
  refine (pay3_at (act m hO c (pt b s')) (blk5 m hO c (pt b s')) _ j).trans ?_
  have hc := contrib m hO c hR (pt b s') hb' j
  rw [e, st_pt] at hc
  refine congrArg₂ (· + ·) ?_ hc
  congr 1

/-- The four slabs' terms are all the terms. -/
theorem slabs (hR : Rng (tbl m)) (b : Fin 192) (j : S512x2048.Idx) :
    slab m c hR b 0 j + slab m c hR b 1 j + slab m c hR b 2 j + slab m c hR b 3 j
      = ∑ f : Fin 2048, term (Xa m c) (W1a m c) (B1a m c) (W2a m c) (rw' b (j 0)) (exq hR b) (j 1) f := by
  rw [← Fin.sum_univ_four (fun s => slab m c hR b s j)]
  unfold slab
  exact Fin.sum_mul_add_congr (h := fun s k hl => rfl)

/-- At the last point of a block in use: the feed-forward of the block's rows. -/
theorem last_at (hR : Rng (tbl m)) (b : Fin 192) (hb : b.val < nu (tbl m)) (j : S512x2048.Idx) :
    outsAt m hO c (pt b 3).val (pt b 3).isLt j
      = ffn (Xa m c) (W1a m c) (B1a m c) (W2a m c) (B2a m c) (rw' b (j 0)) (exq hR b) (j 1) := by
  rw [later_at m hO c hR b hb 2 3 rfl, later_at m hO c hR b hb 1 2 rfl, later_at m hO c hR b hb 0 1 rfl, first_at m hO c hR b hb]
  unfold ffn
  rw [← slabs m c hR b j]
  generalize slab m c hR b 0 j = x0, slab m c hR b 1 j = x1, slab m c hR b 2 j = x2, slab m c hR b 3 j = x3
  rw [add_right_comm x0 _ x1, add_right_comm (x0 + x1) _ x2, add_right_comm (x0 + x1 + x2) _ x3]

/-- At the last point of a block not in use: zeros. -/
theorem zero_at (hR : Rng (tbl m)) (b : Fin 192) (hb : ¬ b.val < nu (tbl m)) (j : S512x2048.Idx) :
    outsAt m hO c (pt b 3).val (pt b 3).isLt j = (0 : EReal) := by
  rw [outsAt_zero m hO c (pt b 3) (fun h => hb (by have := (active_iff m c hR _).1 h; rwa [bl_pt] at this))]
  exact pay4_at j

/-! ## The array -/

/-- A row's block. -/
def blkOf (r : Fin 98304) : Fin 192 := ⟨r.val / 512, by omega⟩

/-- What the kernel leaves. -/
def result (hR : Rng (tbl m)) : FVec Ideal S98304x2048 .f32 := fun i =>
  if (blkOf (i 0)).val < nu (tbl m) then
    ffn (Xa m c) (W1a m c) (B1a m c) (W2a m c) (B2a m c) (i 0) (exq hR (blkOf (i 0))) (i 1)
  else (0 : EReal)

theorem last_result (hR : Rng (tbl m)) (b : Fin 192) (j : S512x2048.Idx) :
    outsAt m hO c (pt b 3).val (pt b 3).isLt j = result m c hR (ix2 (rw' b (j 0)) (j 1)) := by
  have e : blkOf (rw' b (j 0)) = b := Fin.ext (by show (b.val * 512 + (j 0).val) / 512 = b.val; have : (j 0).val < 512 := (j 0).isLt; omega)
  show _ = if (blkOf (rw' b (j 0))).val < nu (tbl m) then
    ffn (Xa m c) (W1a m c) (B1a m c) (W2a m c) (B2a m c) (rw' b (j 0)) (exq hR (blkOf (rw' b (j 0)))) (j 1)
    else (0 : EReal)
  rw [e]
  by_cases hb : b.val < nu (tbl m)
  · rw [if_pos hb]; exact last_at m hO c hR b hb j
  · rw [if_neg hb]; exact zero_at m hO c hR b hb j

section
variable (a : (pcfg0 (F := Ideal)).Adm)
theorem index7 (t : Fin grid0.N) : (win0 a 7).index t = cc0_transform_7 (grid0.coords t) := rfl
def plc7 (t : Fin grid0.N) (x : S512x2048.Idx) : S98304x2048.Idx := ((win0 a 7).blk t).view.emb x
theorem plc7_val (t : Fin grid0.N) (x : S512x2048.Idx) (k : Fin 2) :
    (plc7 a t x k).val = (win0 a 7).index t k * S512x2048.size k + (x k).val :=
  Pipeline.Window.rect_emb_val (win0 a 7) t x k rfl
theorem plc7_eq (t : Fin grid0.N) (x : S512x2048.Idx) : plc7 a t x = ix2 (rw' (bl t) (x 0)) (x 1) := by
  funext z
  apply Fin.ext
  have e := plc7_val a t x z
  rw [index7] at e
  refine e.trans ?_
  have h0 : (grid0.coords t 0).val < 192 := (grid0.coords t 0).isLt
  change Fin 2 at z
  fin_cases z
  · show (BitVec.ofNat 32 (grid0.coords t 0).val).toNat * 512 + (x 0).val = (grid0.coords t 0).val * 512 + (x 0).val
    rw [BitVec.toNat_ofNat]; omega
  · show 0 * 2048 + (x 1).val = (x 1).val; omega
theorem plc7_mem (t : Fin grid0.N) (x : S512x2048.Idx) : (plc7 a t x : S98304x2048.Idx) ∈ ((win0 a 7).blk t).view.set :=
  View.emb_mem_set _ x

/-- Every place of the array is in the block of its row. -/
theorem covered (i : S98304x2048.Idx) : i ∈ ((win0 a 7).blk (pt (blkOf (i 0)) 3)).view.set := by
  have hi : (i 0).val < 98304 := (i 0).isLt
  have e : plc7 a (pt (blkOf (i 0)) 3) (ix2 (⟨(i 0).val % 512, Nat.mod_lt _ (by decide)⟩ : Fin 512) (i 1)) = i := by
    rw [plc7_eq, bl_pt]
    funext z
    apply Fin.ext
    change Fin 2 at z
    fin_cases z
    · show (i 0).val / 512 * 512 + (i 0).val % 512 = (i 0).val; omega
    · rfl
  generalize pt (blkOf (i 0)) 3 = t at e ⊢
  exact e.subst (motive := fun z : S98304x2048.Idx => z ∈ ((win0 a 7).blk t).view.set) (plc7_mem a t _)
end

theorem flush_pt (t : Fin grid0.N) (h : t.val % 4 = 3) : t = pt (bl t) 3 := by
  have ht : t.val < 768 := lt_of_lt_of_eq t.isLt N_0
  apply Fin.ext
  have e : (bl t).val = t.val / 4 % 192 := coord0 t
  show t.val = 4 * (bl t).val + 3
  omega

theorem final (hR : Rng (tbl m)) : (dats m hO 0 c).arrAt 7 (cfgM m hO).N = result m c hR := by
  refine (dats m hO 0 c).arrAt_eq_of_emb 7 (result m c hR) (fun t hf y => ?_) (fun i => ?_)
  · have h3 := (flush0_7 (adm m hO) t).1 hf
    have e := flush_pt t h3
    rw [after0_7]
    refine Eq.trans ?_ (congrArg (result m c hR) (plc7_eq (adm m hO) t y)).symm
    refine Eq.trans ?_ (last_result m hO c hR (bl t) y)
    rw [← e]
    rfl
  · exact ⟨pt (blkOf ((show S98304x2048.Idx from i) 0)) 3,
      (flush0_7 (adm m hO) _).2 (by show (4 * _ + 3) % 4 = 3; omega), covered (adm m hO) i⟩

end Cert.KernelIdeal.Moe
-- ==== Proof.Const.Words.lean ====
/- The values of the float constants that the two sides write differently. -/
module

public import Idealize.ShloMosaic.PureOps.Ideal
public import Idealize.ShloMosaic.Lib.Pipeline.ValueKit

@[expose] public section

namespace Cert.Words

open Idealize.ShloMosaic

/-- Minus 1.702, written as a constant of its own or as a negation. -/
theorem neg_const : Ideal.ofBits .f32 3218725667#32 = -Ideal.ofBits .f32 1071242019#32 := by
  simp [Ideal.ofBits, Ideal.ieee]

theorem w128 : Ideal.ofBits .f32 1124073472#32 = ((128 : ℝ) : EReal) := by
  simp [Ideal.ofBits, Ideal.ieee, -EReal.coe_mul]; norm_num

theorem inv128 : Ideal.ofBits .f32 1006632960#32 = ((1 / 128 : ℝ) : EReal) := by
  simp [Ideal.ofBits, Ideal.ieee, -EReal.coe_mul]; norm_num

/-- Dividing by 128 is multiplying by its reciprocal, which has an exact word. -/
theorem div128 (x : EReal) : Ideal.div x (Ideal.ofBits .f32 1124073472#32) = x * Ideal.ofBits .f32 1006632960#32 := by
  rw [w128, inv128]
  exact Ideal.div_coe (by norm_num : (128 : ℝ) ≠ 0) x

end Cert.Words
-- ==== Proof.Moe.Ref.lean ====
/- The reference read at an index: the experts' feed-forward of each block's rows under the block's expert, zeros in the
blocks not in use. -/
module

public import proofs.«01_k».proof.Proof.Gen.ReferenceIdeal.Run
public import Idealize.ShloMosaic.Lib.Pipeline.ValueKit
public import Idealize.ShloMosaic.Lib.WordCmp
public import proofs.«01_k».proof.Proof.Moe.Spec
public import proofs.«01_k».proof.Proof.Const.Words

@[expose] public section

set_option maxRecDepth 16384

noncomputable section

namespace Cert.ReferenceIdeal.Moe

open Cert.ReferenceIdeal Cert.ReferenceIdeal.Gen Idealize.ShloMosaic Idealize.ShloMosaic.TcCoe
open Cert.KernelIdeal.Moe (ev od cut acts hid term ffn)

/-! ## The reference's steps -/

/-- The experts of the blocks, as the reference indexes by them. -/
def ixT (a1 : IVec S192 32) : IVec S192x1 32 :=
  broadcastInDim S192x1 ![0] bcast_S192_S192x1_0 (select (cmpi .slt a1 (broadcastInDim S192 ![] bcast_S_S192 (constantI S_ 32 0#32))) (addi a1 (broadcastInDim S192 ![] bcast_S_S192 (constantI S_ 32 32#32))) a1)

/-- The hidden values. -/
def hT (a0 : FVec Ideal S98304x2048 .bf16) (a3 : FVec Ideal S32x2048x4096 .f32) (a4 : FVec Ideal S32x4096 .f32) (ix : IVec S192x1 32) :
    FVec Ideal S192x512x4096 .f32 :=
  addf (Host.dotGeneral dot_S192x512x2048_S192x2048x4096_S192x512x4096_2_1_1_2_0_0 none (shapeCast S192x512x2048 (extf .f32 a0 bitsLt_bf16_f32) shapeCasts_S98304x2048_S192x512x2048) (Host.gather gather_S32x2048x4096_S192x1_S192x2048x4096_12_0_n_n_0_1_120484096 a3 ix)) (broadcastInDim S192x512x4096 ![0, 1, 2] bcast_S192x1x4096_S192x512x4096_0_1_2 (broadcastInDim S192x1x4096 ![0, 2] bcast_S192x4096_S192x1x4096_0_2 (Host.gather gather_S32x4096_S192x1_S192x4096_1_0_n_n_0_1_14096 a4 ix)))

/-- The activations. -/
def gT (h : FVec Ideal S192x512x4096 .f32) : FVec Ideal S192x512x2048 .f32 :=
  mulf (mulf (minimumf (Host.slice S192x512x2048 ![0, 0, 0] ![1, 1, 2] h slicesBy_S192x512x4096_S192x512x2048_0s1_0s1_0s2) (broadcastInDim S192x512x2048 ![] bcast_S_S192x512x2048 (constant S_ .f32 0x40E00000#32))) (Host.divf (broadcastInDim S192x512x2048 ![] bcast_S_S192x512x2048 (constant S_ .f32 0x3F800000#32)) (addf (broadcastInDim S192x512x2048 ![] bcast_S_S192x512x2048 (constant S_ .f32 0x3F800000#32)) (Host.exp (Host.negf (mulf (broadcastInDim S192x512x2048 ![] bcast_S_S192x512x2048 (constant S_ .f32 0x3FD9DB23#32)) (minimumf (Host.slice S192x512x2048 ![0, 0, 0] ![1, 1, 2] h slicesBy_S192x512x4096_S192x512x2048_0s1_0s1_0s2) (broadcastInDim S192x512x2048 ![] bcast_S_S192x512x2048 (constant S_ .f32 0x40E00000#32))))))))) (addf (minimumf (broadcastInDim S192x512x2048 ![] bcast_S_S192x512x2048 (id (constant S_ .f32 0x40E00000#32))) (maximumf (broadcastInDim S192x512x2048 ![] bcast_S_S192x512x2048 (id (constant S_ .f32 0xC0E00000#32))) (Host.slice S192x512x2048 ![0, 0, 1] ![1, 1, 2] h slicesBy_S192x512x4096_S192x512x2048_0s1_0s1_1s2))) (broadcastInDim S192x512x2048 ![] bcast_S_S192x512x2048 (constant S_ .f32 0x3F800000#32)))

/-- The second product with its bias. -/
def oT (g : FVec Ideal S192x512x2048 .f32) (a5 : FVec Ideal S32x2048x2048 .f32) (a6 : FVec Ideal S32x2048 .f32) (ix : IVec S192x1 32) :
    FVec Ideal S192x512x2048 .f32 :=
  addf (Host.dotGeneral dot_S192x512x2048_S192x2048x2048_S192x512x2048_2_1_1_2_0_0 none g (Host.gather gather_S32x2048x2048_S192x1_S192x2048x2048_12_0_n_n_0_1_120482048 a5 ix)) (broadcastInDim S192x512x2048 ![0, 1, 2] bcast_S192x1x2048_S192x512x2048_0_1_2 (broadcastInDim S192x1x2048 ![0, 2] bcast_S192x2048_S192x1x2048_0_2 (Host.gather gather_S32x2048_S192x1_S192x2048_1_0_n_n_0_1_12048 a6 ix)))

/-- The result: zeros where the block is not in use. -/
def rT (a2 : IVec S1 32) (o : FVec Ideal S192x512x2048 .f32) : FVec Ideal S98304x2048 .f32 :=
  shapeCast S98304x2048 (select (broadcastInDim S192x512x2048 ![0, 1, 2] bcast_S192x1x1_S192x512x2048_0_1_2 (broadcastInDim S192x1x1 ![0] bcast_S192_S192x1x1_0 (cmpi .slt (iotaInDim S192 32 0) (broadcastInDim S192 ![] bcast_S_S192 (shapeCast S_ a2 shapeCasts_S1_S_))))) o (broadcastInDim S192x512x2048 ![] bcast_S_S192x512x2048 (id (constant S_ .f32 0x00000000#32)))) shapeCasts_S192x512x2048_S98304x2048

/-- The whole reference. -/
def refT (a0 : FVec Ideal S98304x2048 .bf16) (a1 : IVec S192 32) (a2 : IVec S1 32) (a3 : FVec Ideal S32x2048x4096 .f32)
    (a4 : FVec Ideal S32x4096 .f32) (a5 : FVec Ideal S32x2048x2048 .f32) (a6 : FVec Ideal S32x2048 .f32) : FVec Ideal S98304x2048 .f32 :=
  rT a2 (oT (gT (hT a0 a3 a4 (ixT a1))) a5 a6 (ixT a1))

variable (m : (ℓ : Loc nD τ sig) → Buf (Elt Ideal) ℓ)

theorem res_eq (c : Dev nD) : Value.res_main_v61 m c
    = refT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

/-! ## Rows taken at an index in range -/

/-- The first weights of a block's expert. -/
theorem take_w1 {α : Type} (x : S32x2048x4096.Idx → α) (idx : IVec S192x1 32) (e : Fin 32) (j : S192x2048x4096.Idx)
    (he : min (idx (ix2 (j 0) 0)).toInt.toNat 31 = e.val) :
    Host.gather gather_S32x2048x4096_S192x1_S192x2048x4096_12_0_n_n_0_1_120484096 x idx j = x (ix3 e (j 1) (j 2)) := by
  unfold Host.gather
  congr 1
  funext a
  apply Fin.ext
  change Fin 3 at a
  fin_cases a
  · refine Eq.trans ?_ he
    have h : ∀ z : S192x1.Idx, z = ix2 (j 0) 0 → min (idx z).toInt.toNat 31 + 0 + 0 = min (idx (ix2 (j 0) 0)).toInt.toNat 31 := by
      rintro _ rfl; rfl
    apply h
    funext b
    change Fin 2 at b
    fin_cases b <;> rfl
  · show 0 + 0 + (j 1).val = _
    simp
  · show 0 + 0 + (j 2).val = _
    simp

/-- The first biases of a block's expert. -/
theorem take_b1 {α : Type} (x : S32x4096.Idx → α) (idx : IVec S192x1 32) (e : Fin 32) (j : S192x4096.Idx)
    (he : min (idx (ix2 (j 0) 0)).toInt.toNat 31 = e.val) :
    Host.gather gather_S32x4096_S192x1_S192x4096_1_0_n_n_0_1_14096 x idx j = x (ix2 e (j 1)) := by
  unfold Host.gather
  congr 1
  funext a
  apply Fin.ext
  change Fin 2 at a
  fin_cases a
  · refine Eq.trans ?_ he
    have h : ∀ z : S192x1.Idx, z = ix2 (j 0) 0 → min (idx z).toInt.toNat 31 + 0 + 0 = min (idx (ix2 (j 0) 0)).toInt.toNat 31 := by
      rintro _ rfl; rfl
    apply h
    funext b
    change Fin 2 at b
    fin_cases b <;> rfl
  · show 0 + 0 + (j 1).val = _
    simp

/-- The second weights of a block's expert. -/
theorem take_w2 {α : Type} (x : S32x2048x2048.Idx → α) (idx : IVec S192x1 32) (e : Fin 32) (j : S192x2048x2048.Idx)
    (he : min (idx (ix2 (j 0) 0)).toInt.toNat 31 = e.val) :
    Host.gather gather_S32x2048x2048_S192x1_S192x2048x2048_12_0_n_n_0_1_120482048 x idx j = x (ix3 e (j 1) (j 2)) := by
  unfold Host.gather
  congr 1
  funext a
  apply Fin.ext
  change Fin 3 at a
  fin_cases a
  · refine Eq.trans ?_ he
    have h : ∀ z : S192x1.Idx, z = ix2 (j 0) 0 → min (idx z).toInt.toNat 31 + 0 + 0 = min (idx (ix2 (j 0) 0)).toInt.toNat 31 := by
      rintro _ rfl; rfl
    apply h
    funext b
    change Fin 2 at b
    fin_cases b <;> rfl
  · show 0 + 0 + (j 1).val = _
    simp
  · show 0 + 0 + (j 2).val = _
    simp

/-- The second biases of a block's expert. -/
theorem take_b2 {α : Type} (x : S32x2048.Idx → α) (idx : IVec S192x1 32) (e : Fin 32) (j : S192x2048.Idx)
    (he : min (idx (ix2 (j 0) 0)).toInt.toNat 31 = e.val) :
    Host.gather gather_S32x2048_S192x1_S192x2048_1_0_n_n_0_1_12048 x idx j = x (ix2 e (j 1)) := by
  unfold Host.gather
  congr 1
  funext a
  apply Fin.ext
  change Fin 2 at a
  fin_cases a
  · refine Eq.trans ?_ he
    have h : ∀ z : S192x1.Idx, z = ix2 (j 0) 0 → min (idx z).toInt.toNat 31 + 0 + 0 = min (idx (ix2 (j 0) 0)).toInt.toNat 31 := by
      rintro _ rfl; rfl
    apply h
    funext b
    change Fin 2 at b
    fin_cases b <;> rfl
  · show 0 + 0 + (j 1).val = _
    simp

/-! ## The steps at an index -/

/-- A small count compared with a word. -/
theorem slt_word (a : Nat) (w : BitVec 32) (ha : a < 192) (hw : w.toNat ≤ 192) :
    Scalar.cmpi .slt (BitVec.ofNat 32 a) w = 1#1 ↔ a < w.toNat := by
  have e : w = BitVec.ofNat 32 w.toNat := by simp
  refine Iff.trans (by rw [← e]; exact Iff.rfl) (WordCmp.cmpi_slt_ofNat_eq_one_iff (w := 32) (a := a) (b := w.toNat) (by omega) (by omega))

/-- An expert's word is not negative. -/
theorem nonneg_word (w : BitVec 32) (hw : w.toNat < 32) : ¬ Scalar.cmpi .slt w 0#32 = 1#1 := fun h => by
  have e : w = BitVec.ofNat 32 w.toNat := by simp
  rw [e] at h
  exact absurd ((WordCmp.cmpi_slt_ofNat_eq_one_iff (w := 32) (a := w.toNat) (b := 0) (by omega) (by omega)).1 h) (by omega)

/-- The expert of a block, given that the table's entries are experts. -/
abbrev exR {a1 : IVec S192 32} (h : ∀ b : Fin 192, (a1 (ix1 b)).toNat < 32) (b : Fin 192) : Fin 32 := ⟨(a1 (ix1 b)).toNat, h b⟩

theorem ixT_at {a1 : IVec S192 32} (h : ∀ b : Fin 192, (a1 (ix1 b)).toNat < 32) (b : Fin 192) :
    min (ixT a1 (ix2 b 0)).toInt.toNat 31 = (exR h b).val := by
  have hb := h b
  have e : ixT a1 (ix2 b 0) = a1 (ix1 b) := by
    unfold ixT
    pointwise
    revert hb
    generalize a1 (ix1 b) = w
    change BitVec 32 at w
    intro hb
    have hn : IntOp.cmpi CmpIPredicate.slt w 0#32 = 0#1 := by
      have hc : ¬ Scalar.cmpi .slt w 0#32 = 1#1 := nonneg_word w hb
      show Scalar.cmpi .slt w 0#32 = 0#1
      revert hc
      generalize Scalar.cmpi .slt w 0#32 = z
      revert z; decide
    rw [hn]
    rfl
  rw [e]
  show _ = (a1 (ix1 b)).toNat
  revert hb
  generalize a1 (ix1 b) = w
  change BitVec 32 at w
  intro hb
  rw [BitVec.toInt_eq_toNat_of_lt (by omega), Int.toNat_natCast]
  omega

theorem hT_at (a0 : FVec Ideal S98304x2048 .bf16) (a3 : FVec Ideal S32x2048x4096 .f32) (a4 : FVec Ideal S32x4096 .f32)
    {a1 : IVec S192 32} (h : ∀ b : Fin 192, (a1 (ix1 b)).toNat < 32) (j : S192x512x4096.Idx) :
    hT a0 a3 a4 (ixT a1) j = hid a0 a3 a4 ⟨(j 0).val * 512 + (j 1).val, by have h0 : (j 0).val < 192 := (j 0).isLt; have h1 : (j 1).val < 512 := (j 1).isLt; omega⟩ (exR h (j 0)) (j 2) := by
  unfold hT hid
  pointwise
  refine congrArg₂ (· + ·) (Finset.sum_congr rfl fun k _ => congrArg₂ (· * ·) rfl ?_) ?_
  · exact take_w1 a3 (ixT a1) (exR h (j 0)) (ix3 (j 0) k (j 2)) (ixT_at h (j 0))
  · exact take_b1 a4 (ixT a1) (exR h (j 0)) (ix2 (j 0) (j 2)) (ixT_at h (j 0))

theorem gT_at (h : FVec Ideal S192x512x4096 .f32) (j : S192x512x2048.Idx) :
    gT h j = acts (h (ix3 (j 0) (j 1) (ev (j 2)))) (h (ix3 (j 0) (j 1) (od (j 2)))) := by
  unfold gT acts cut
  pointwise
  rw [Cert.Words.neg_const, EReal.neg_mul]
  rfl

theorem oT_at (g : FVec Ideal S192x512x2048 .f32) (a5 : FVec Ideal S32x2048x2048 .f32) (a6 : FVec Ideal S32x2048 .f32)
    {a1 : IVec S192 32} (h : ∀ b : Fin 192, (a1 (ix1 b)).toNat < 32) (j : S192x512x2048.Idx) :
    oT g a5 a6 (ixT a1) j = ∑ f : Fin 2048, g (ix3 (j 0) (j 1) f) * a5 (ix3 (exR h (j 0)) f (j 2)) + a6 (ix2 (exR h (j 0)) (j 2)) := by
  unfold oT
  pointwise
  refine congrArg₂ (· + ·) (Finset.sum_congr rfl fun k _ => congrArg₂ (· * ·) rfl ?_) ?_
  · exact take_w2 a5 (ixT a1) (exR h (j 0)) (ix3 (j 0) k (j 2)) (ixT_at h (j 0))
  · exact take_b2 a6 (ixT a1) (exR h (j 0)) (ix2 (j 0) (j 2)) (ixT_at h (j 0))

theorem rT_at (a2 : IVec S1 32) (h2 : (a2 (ix1 0)).toNat ≤ 192) (o : FVec Ideal S192x512x2048 .f32) (i : S98304x2048.Idx) :
    rT a2 o i = if (i 0).val / 512 < (a2 (ix1 0)).toNat then
      o (ix3 (⟨(i 0).val / 512, by have h0 : (i 0).val < 98304 := (i 0).isLt; omega⟩ : Fin 192) (⟨(i 0).val % 512, Nat.mod_lt _ (by decide)⟩ : Fin 512) (i 1)) else (0 : EReal) := by
  have h0 : (i 0).val < 98304 := (i 0).isLt
  unfold rT
  pointwise
  have hc : Scalar.cmpi .slt (BitVec.ofNat 32 ((i 0).val / 512)) (show BitVec 32 from a2 (ix1 0)) = 1#1 ↔ (i 0).val / 512 < (a2 (ix1 0)).toNat := by
    exact slt_word _ _ (by omega) h2
  have hz : (id (constant S_ FTy.f32 0#32 : FVec Ideal S_ .f32) ix0 : EReal) = 0 := by
    pointwise [id]
  rw [hz]
  by_cases hlt : (i 0).val / 512 < (a2 (ix1 0)).toNat
  · rw [if_pos hlt]
    have e : IntOp.cmpi CmpIPredicate.slt (BitVec.ofNat 32 ((i 0).val / 512)) (a2 (ix1 0)) = 1#1 := hc.2 hlt
    rw [e]; rfl
  · rw [if_neg hlt]
    have e : IntOp.cmpi CmpIPredicate.slt (BitVec.ofNat 32 ((i 0).val / 512)) (a2 (ix1 0)) = 0#1 := by
      have := fun h => hlt (hc.1 h)
      show Scalar.cmpi .slt (BitVec.ofNat 32 ((i 0).val / 512)) (show BitVec 32 from a2 (ix1 0)) = 0#1
      revert this
      generalize Scalar.cmpi .slt (BitVec.ofNat 32 ((i 0).val / 512)) (show BitVec 32 from a2 (ix1 0)) = z
      revert z; decide
    rw [e]; rfl

/-- The reference at an index: the feed-forward of the row under its block's expert, or zero. -/
theorem refT_at (a0 : FVec Ideal S98304x2048 .bf16) {a1 : IVec S192 32} (h : ∀ b : Fin 192, (a1 (ix1 b)).toNat < 32)
    (a2 : IVec S1 32) (h2 : (a2 (ix1 0)).toNat ≤ 192) (a3 : FVec Ideal S32x2048x4096 .f32)
    (a4 : FVec Ideal S32x4096 .f32) (a5 : FVec Ideal S32x2048x2048 .f32) (a6 : FVec Ideal S32x2048 .f32) (i : S98304x2048.Idx) :
    refT a0 a1 a2 a3 a4 a5 a6 i = if (i 0).val / 512 < (a2 (ix1 0)).toNat then
      ffn a0 a3 a4 a5 a6 (i 0) (exR h ⟨(i 0).val / 512, by have h0 : (i 0).val < 98304 := (i 0).isLt; omega⟩) (i 1) else (0 : EReal) := by
  have h0 : (i 0).val < 98304 := (i 0).isLt
  have e : ∀ hl, (⟨(i 0).val / 512 * 512 + (i 0).val % 512, hl⟩ : Fin 98304) = i 0 := fun hl => Fin.ext (by show _ = (i 0).val; simp only; omega)
  unfold refT
  rw [rT_at a2 h2]
  refine ite_congr rfl (fun _ => ?_) fun _ => rfl
  rw [oT_at _ a5 a6 h]
  unfold ffn term
  refine congrArg₂ (· + ·) (Finset.sum_congr rfl fun f _ => congrArg₂ (· * ·) ?_ rfl) rfl
  rw [gT_at, hT_at a0 a3 a4 h, hT_at a0 a3 a4 h]
  refine congrArg₂ acts ?_ ?_
  · exact congrArg (fun r => hid a0 a3 a4 r _ (ev f)) (e _)
  · exact congrArg (fun r => hid a0 a3 a4 r _ (od f)) (e _)

end Cert.ReferenceIdeal.Moe
-- ==== Proof.Moe.Meet.lean ====
/- The kernel's array is the reference's. -/
module

public import proofs.«01_k».proof.Proof.Moe.Value
public import proofs.«01_k».proof.Proof.Moe.Ref

@[expose] public section

set_option maxRecDepth 16384

noncomputable section

namespace Cert.KernelIdeal.Moe

open Cert.KernelIdeal.Gen
open Idealize.ShloMosaic Idealize.ShloMosaic.TcCoe

variable (m : (ℓ : Loc nD τ sig) → Buf (Elt Ideal) ℓ)

theorem i192_eq (b : Fin 192) : i192 b = ix1 b := funext fun a => by
  obtain rfl : a = 0 := Subsingleton.elim _ _; rfl
theorem i1_eq : i1 = ix1 0 := funext fun a => by
  obtain rfl : a = 0 := Subsingleton.elim _ _; rfl

/-- The tables at the types the reference reads them at. -/
abbrev T1 (c : Dev nD) : IVec S192 32 := m ((c : Thread nD τ).loc main_arg1)
abbrev T2 (c : Dev nD) : IVec S1 32 := m ((c : Thread nD τ).loc main_arg2)

theorem ew_eq (b : Fin 192) : ew (tbl m) b = (T1 m 0 (ix1 b)).toNat := by
  have e0 : tbl m 0 = m (((0 : Dev nD) : Thread nD τ).loc main_arg1) := V_main_arg1 m 0
  unfold ew
  rw [e0, i192_eq]
theorem nu_eq : nu (tbl m) = (T2 m 0 (ix1 0)).toNat := by
  have e1 : tbl m 1 = m (((0 : Dev nD) : Thread nD τ).loc main_arg2) := V_main_arg2 m 0
  unfold nu
  rw [e1, i1_eq]

/-- Both arrays are the feed-forward of the rows of the blocks in use. -/
theorem result_eq (hR : Rng (tbl m)) (c : Dev nD) :
    result m c hR = Cert.ReferenceIdeal.Moe.refT (Xa m c) (T1 m c) (T2 m c) (W1a m c) (B1a m c) (W2a m c) (B2a m c) := by
  obtain rfl : c = 0 := Subsingleton.elim _ _
  funext i
  have h : ∀ b : Fin 192, (T1 m 0 (ix1 b)).toNat < 32 := fun b => ew_eq m b ▸ hR.ex b
  have h2 : (T2 m 0 (ix1 0)).toNat ≤ 192 := nu_eq m ▸ hR.le
  refine Eq.trans ?_ (Cert.ReferenceIdeal.Moe.refT_at (Xa m 0) h (T2 m 0) h2 (W1a m 0) (B1a m 0) (W2a m 0) (B2a m 0) i).symm
  unfold result
  refine ite_congr ?_ (fun _ => ?_) fun _ => rfl
  · rw [nu_eq m]; rfl
  · exact congrArg (fun e => ffn (Xa m 0) (W1a m 0) (B1a m 0) (W2a m 0) (B2a m 0) (i 0) e (i 1)) (Fin.ext (ew_eq m (blkOf (i 0))))

end Cert.KernelIdeal.Moe
-- ==== Proof.Proj.Heads.lean ====
/- The per-head normalisation inside the joint query, key and value projection, and its tiles: a tile of 512 columns is four
heads, each normalised on its own. -/
module

public import proofs.«01_k».proof.Proof.Gen.Kernel2Ideal.Value
public import Idealize.ShloMosaic.Lib.Pipeline.ValueKit

@[expose] public section

set_option maxRecDepth 16384

noncomputable section

namespace Cert.Kernel2Ideal.Proj

open Cert.Kernel2Ideal Cert.Kernel2Ideal.Gen
open Idealize.ShloMosaic Idealize.ShloMosaic.TcCoe

/-- The columns of the head that a tile's column lies in. -/
abbrev grp (q : Fin 512) (x : Fin 128) : Fin 512 := ⟨q.val / 128 * 128 + x.val, by omega⟩

/-- A value, divided by the root of its head's mean square, times its gain. -/
def scaled (v s g : EReal) : EReal := v * Ideal.rsqrt (s * Ideal.ofBits .f32 1006632960#32 + Ideal.ofBits .f32 897988541#32) * g

/-- One value of a tile, normalised. -/
def cell (z : FVec Ideal S1024x512 .f32) (g : FVec Ideal S1x512 .f32) (r : Fin 1024) (q : Fin 512) : EReal :=
  scaled (z (ix2 r q)) (∑ x : Fin 128, z (ix2 r (grp q x)) * z (ix2 r (grp q x))) (g (ix2 (0 : Fin 1) q))

/-- The same with the head's columns written from their first. -/
theorem cell_from (z : FVec Ideal S1024x512 .f32) (g : FVec Ideal S1x512 .f32) (r : Fin 1024) (q : Fin 512) (e : Fin 128 → Fin 512)
    (he : ∀ x, (e x).val = q.val / 128 * 128 + x.val) :
    scaled (z (ix2 r q)) (∑ x : Fin 128, z (ix2 r (e x)) * z (ix2 r (e x))) (g (ix2 (0 : Fin 1) q)) = cell z g r q := by
  have h : ∀ x, e x = grp q x := fun x => Fin.ext (he x)
  unfold cell
  simp only [h]

/-! ## The four heads of a tile -/

variable (z : FVec Ideal S1024x512 .f32) (g : FVec Ideal S1x512 .f32)

theorem head0 (j : S1024x128.Idx) : k0_pay4 (F := Ideal) z g j = cell z g (j 0) ⟨(j 1).val, by have h : (j 1).val < 128 := (j 1).isLt; omega⟩ := by
  have h : (j 1).val < 128 := (j 1).isLt
  pointwise [k0_pay4, k0_pay3]
  refine Eq.trans ?_ (cell_from z g (j 0) _ (fun x => ⟨x.val, by omega⟩) fun x => ?_)
  · rfl
  · show x.val = (j 1).val / 128 * 128 + x.val; omega

theorem head1 (j : S1024x128.Idx) : k0_pay5 (F := Ideal) z g j = cell z g (j 0) ⟨128 + (j 1).val, by have h : (j 1).val < 128 := (j 1).isLt; omega⟩ := by
  have h : (j 1).val < 128 := (j 1).isLt
  pointwise [k0_pay5, k0_pay3]
  refine Eq.trans ?_ (cell_from z g (j 0) _ (fun x => ⟨128 + x.val, by omega⟩) fun x => ?_)
  · rfl
  · show 128 + x.val = (128 + (j 1).val) / 128 * 128 + x.val; omega

theorem head2 (j : S1024x128.Idx) : k0_pay6 (F := Ideal) z g j = cell z g (j 0) ⟨256 + (j 1).val, by have h : (j 1).val < 128 := (j 1).isLt; omega⟩ := by
  have h : (j 1).val < 128 := (j 1).isLt
  pointwise [k0_pay6, k0_pay3]
  refine Eq.trans ?_ (cell_from z g (j 0) _ (fun x => ⟨256 + x.val, by omega⟩) fun x => ?_)
  · rfl
  · show 256 + x.val = (256 + (j 1).val) / 128 * 128 + x.val; omega

/-- The sum of squares of the last head, which the call takes apart. -/
theorem sum3 (j : S1024x1.Idx) : k0_pay8 (F := Ideal) z j = ∑ x : Fin 128, z (ix2 (j 0) (⟨384 + x.val, by omega⟩ : Fin 512)) * z (ix2 (j 0) (⟨384 + x.val, by omega⟩ : Fin 512)) := by
  pointwise [k0_pay8, k0_pay7]

/-- The tile, normalised. -/
theorem heads_at (j : S1024x512.Idx) :
    k0_pay2 (F := Ideal) (k0_pay3 g) (k0_pay4 z g) (k0_pay5 z g) (k0_pay6 z g) (k0_pay7 z) (k0_pay8 z) j = cell z g (j 0) (j 1) := by
  have h : (j 1).val < 512 := (j 1).isLt
  pointwise [k0_pay2]
  by_cases h0 : (j 1).val < 128
  · exact (dif_pos h0).trans (head0 z g _)
  refine (dif_neg h0).trans ?_
  by_cases h1 : (j 1).val - 128 < 128
  · refine (dif_pos h1).trans ((head1 z g (ix2 (j 0) (⟨(j 1).val - 128, h1⟩ : Fin 128))).trans (congrArg (cell z g (j 0)) (Fin.ext ?_)))
    show 128 + ((j 1).val - 128) = (j 1).val; omega
  refine (dif_neg h1).trans ?_
  by_cases h2 : (j 1).val - 128 - 128 < 128
  · refine (dif_pos h2).trans ((head2 z g (ix2 (j 0) (⟨(j 1).val - 128 - 128, h2⟩ : Fin 128))).trans (congrArg (cell z g (j 0)) (Fin.ext ?_)))
    show 256 + ((j 1).val - 128 - 128) = (j 1).val; omega
  refine (dif_neg h2).trans ?_
  have e : (⟨384 + ((j 1).val - 128 - 128 - 128), by omega⟩ : Fin 512) = j 1 := Fin.ext (by show 384 + ((j 1).val - 128 - 128 - 128) = (j 1).val; omega)
  refine Eq.trans ?_ (cell_from z g (j 0) (j 1) (fun x => ⟨384 + x.val, by omega⟩) fun x => ?_)
  · unfold scaled
    refine congrArg₂ (· * ·) (congrArg₂ (· * ·) ?_ (congrArg (fun s => Ideal.rsqrt (s * _ + _)) (sum3 z (ix2 (j 0) (0 : Fin 1))))) ?_
    · refine Eq.trans ?_ (congrArg (fun q => z (ix2 (j 0) q)) e)
      pointwise [k0_pay7]
    · refine Eq.trans ?_ (congrArg (fun q => g (ix2 (0 : Fin 1) q)) e)
      pointwise [k0_pay3]
  · show 384 + x.val = (j 1).val / 128 * 128 + x.val; omega

end Cert.Kernel2Ideal.Proj
-- ==== Proof.Proj.Qkv.lean ====
/- The joint query, key and value projection: the array that the tiled call leaves is the whole product, its queries and keys
normalised head by head and its values as they are. -/
module

public import proofs.«01_k».proof.Proof.Gen.Kernel2Ideal.Value
public import Idealize.ShloMosaic.Lib.Pipeline.ValueKit
public import proofs.«01_k».proof.Proof.Proj.Heads

@[expose] public section

set_option maxRecDepth 16384

noncomputable section

namespace Cert.Kernel2Ideal.Proj

open Cert.Kernel2Ideal Cert.Kernel2Ideal.Gen
open Idealize.ShloMosaic Idealize.ShloMosaic.TcCoe
open Idealize.ShloMosaic.Pipeline (Dat)

variable (m : (ℓ : Loc nD τ sig) → Buf (Elt Ideal) ℓ) (c : Dev nD)

/-- The arguments at the types they are read at. -/
abbrev Xa : FVec Ideal S20480x2048 .bf16 := m ((c : Thread nD τ).loc main_arg0)
abbrev Wa : FVec Ideal S2048x6144 .f32 := m ((c : Thread nD τ).loc main_arg1)
abbrev Qa : FVec Ideal S128 .f32 := m ((c : Thread nD τ).loc main_arg2)
abbrev Ka : FVec Ideal S128 .f32 := m ((c : Thread nD τ).loc main_arg3)

/-- The product, and the columns of a column's head. -/
def prod (r : Fin 20480) (j : Fin 6144) : EReal := ∑ k : Fin 2048, Xa m c (ix2 r k) * Wa m c (ix2 k j)
abbrev head (j : Fin 6144) (x : Fin 128) : Fin 6144 := ⟨j.val / 128 * 128 + x.val, by omega⟩

/-- The gain of a column of the queries or of the keys: each head has the same. -/
def gain (j : Fin 6144) : EReal :=
  if j.val < 2048 then Qa m c (ix1 (⟨j.val % 128, Nat.mod_lt _ (by decide)⟩ : Fin 128)) else Ka m c (ix1 (⟨j.val % 128, Nat.mod_lt _ (by decide)⟩ : Fin 128))

/-- What the kernel leaves: queries and keys normalised, values as they are. -/
def result : FVec Ideal S20480x6144 .f32 := fun i =>
  if (i 1).val < 4096 then scaled (prod m c (i 0) (i 1)) (∑ x : Fin 128, prod m c (i 0) (head (i 1) x) * prod m c (i 0) (head (i 1) x)) (gain m c (i 1))
  else prod m c (i 0) (i 1)

/-- The weights, as the kernel is handed them. -/
theorem V_w (i : S2048x6144.Idx) : (show FVec Ideal S2048x6144 .bf16 from V m c main_v8) i = Wa m c (ix2 (i 0) (i 1)) := by
  have e : (show FVec Ideal S2048x6144 .bf16 from V m c main_v8) = truncf .bf16 (Wa m c) bitsLt_bf16_f32 := by
    show StableHlo.after hostOps0 _ _ = _
    after_results
  rw [e]
  pointwise

/-- The gains, as the kernel is handed them: the queries' for every head, the keys' for every head, then ones. -/
def gains (q k : FVec Ideal S128 .f32) : FVec Ideal S1x6144 .f32 :=
  shapeCast S1x6144 (concatenate S6144 0
    [⟨S2048, (shapeCast S2048 (broadcastInDim S16x128 ![0, 1] bcast_S1x128_S16x128_0_1 (shapeCast S1x128 q shapeCasts_S128_S1x128)) shapeCasts_S16x128_S2048 : FVec Ideal S2048 .f32)⟩,
      ⟨S2048, (shapeCast S2048 (broadcastInDim S16x128 ![0, 1] bcast_S1x128_S16x128_0_1 (shapeCast S1x128 k shapeCasts_S128_S1x128)) shapeCasts_S16x128_S2048 : FVec Ideal S2048 .f32)⟩,
      ⟨S2048, (broadcastInDim S2048 ![] bcast_S_S2048 (constant (F := Ideal) S_ .f32 0x3F800000#32) : FVec Ideal S2048 .f32)⟩]
    concatenates_S2048_S2048_S2048_S6144_d0) shapeCasts_S6144_S1x6144

theorem V_g : (show FVec Ideal S1x6144 .f32 from V m c main_v9) = gains (Qa m c) (Ka m c) := by
  show StableHlo.after hostOps0 _ _ = _
  after_results_simp <;> (try dsimp only [Matrix.cons_val]) <;> (try after_results_simp) <;> rfl

theorem gains_at (q k : FVec Ideal S128 .f32) (i : S1x6144.Idx) (h : (i 1).val < 4096) :
    gains q k i = if (i 1).val < 2048 then q (ix1 (⟨(i 1).val % 128, Nat.mod_lt _ (by decide)⟩ : Fin 128)) else k (ix1 (⟨(i 1).val % 128, Nat.mod_lt _ (by decide)⟩ : Fin 128)) := by
  unfold gains
  pointwise
  by_cases h0 : (i 1).val < 2048
  · exact (dif_pos h0).trans (if_pos h0).symm
  refine (dif_neg h0).trans (Eq.trans ?_ (if_neg h0).symm)
  refine (dif_pos (by omega : (i 1).val - 2048 < 2048)).trans (congrArg (fun d => k (ix1 d)) (Fin.ext ?_))
  show ((i 1).val - 2048) % 128 = (i 1).val % 128
  omega

/-- One tile of the product. -/
theorem pay_at (x : FVec Ideal S1024x2048 .bf16) (w : FVec Ideal S2048x512 .bf16) (j : S1024x512.Idx) :
    k0_pay1 (F := Ideal) x w j = ∑ k : Fin 2048, x (ix2 (j 0) k) * w (ix2 k (j 1)) := by
  pointwise [k0_pay1]

/-! ## Where a tile sits -/

theorem coord0 (t : Fin grid0.N) : (grid0.coords t 0).val = t.val / 12 % 20 := Pipeline.Grid.coords_val t 0 (by decide) rfl
theorem coord1 (t : Fin grid0.N) : (grid0.coords t 1).val = t.val / 1 % 12 := Pipeline.Grid.coords_val t 1 (by decide) rfl

/-- The row and the column of the array that a tile's row and column are. -/
abbrev row (t : Fin grid0.N) (r : Fin 1024) : Fin 20480 := ⟨(grid0.coords t 0).val * 1024 + r.val, by have h : (grid0.coords t 0).val < 20 := (grid0.coords t 0).isLt; omega⟩
abbrev col (t : Fin grid0.N) (j : Fin 512) : Fin 6144 := ⟨(grid0.coords t 1).val * 512 + j.val, by have h : (grid0.coords t 1).val < 12 := (grid0.coords t 1).isLt; omega⟩

def plc0 (t : Fin grid0.N) (x : S1024x2048.Idx) : S20480x2048.Idx := (win0_0.blk t).view.emb x
theorem plc0_eq (t : Fin grid0.N) (x : S1024x2048.Idx) : plc0 t x = ix2 (row t (x 0)) (x 1) := by
  funext z
  apply Fin.ext
  refine (Pipeline.Window.rect_emb_val win0_0 t x z rfl).trans ?_
  have h : (grid0.coords t 0).val < 20 := (grid0.coords t 0).isLt
  change Fin 2 at z
  fin_cases z
  · show (BitVec.ofNat 32 (grid0.coords t 0).val).toNat * 1024 + (x 0).val = (grid0.coords t 0).val * 1024 + (x 0).val
    rw [BitVec.toNat_ofNat]; omega
  · show 0 * 2048 + (x 1).val = (x 1).val; omega

def plc1 (t : Fin grid0.N) (x : S2048x512.Idx) : S2048x6144.Idx := (win0_1.blk t).view.emb x
theorem plc1_eq (t : Fin grid0.N) (x : S2048x512.Idx) : plc1 t x = ix2 (x 0) (col t (x 1)) := by
  funext z
  apply Fin.ext
  refine (Pipeline.Window.rect_emb_val win0_1 t x z rfl).trans ?_
  have h : (grid0.coords t 1).val < 12 := (grid0.coords t 1).isLt
  change Fin 2 at z
  fin_cases z
  · show 0 * 2048 + (x 0).val = (x 0).val; omega
  · show (BitVec.ofNat 32 (grid0.coords t 1).val).toNat * 512 + (x 1).val = (grid0.coords t 1).val * 512 + (x 1).val
    rw [BitVec.toNat_ofNat]; omega

def plc3 (t : Fin grid0.N) (x : S1024x512.Idx) : S20480x6144.Idx := (win0_3.blk t).view.emb x
theorem plc3_eq (t : Fin grid0.N) (x : S1024x512.Idx) : plc3 t x = ix2 (row t (x 0)) (col t (x 1)) := by
  funext z
  apply Fin.ext
  refine (Pipeline.Window.rect_emb_val win0_3 t x z rfl).trans ?_
  have h : (grid0.coords t 0).val < 20 := (grid0.coords t 0).isLt
  have h' : (grid0.coords t 1).val < 12 := (grid0.coords t 1).isLt
  change Fin 2 at z
  fin_cases z
  · show (BitVec.ofNat 32 (grid0.coords t 0).val).toNat * 1024 + (x 0).val = (grid0.coords t 0).val * 1024 + (x 0).val
    rw [BitVec.toNat_ofNat]; omega
  · show (BitVec.ofNat 32 (grid0.coords t 1).val).toNat * 512 + (x 1).val = (grid0.coords t 1).val * 512 + (x 1).val
    rw [BitVec.toNat_ofNat]; omega

def plc2 (t : Fin grid0.N) (x : S1x512.Idx) : S1x6144.Idx := (win0_2.blk t).view.emb x
theorem plc2_eq (t : Fin grid0.N) (x : S1x512.Idx) : plc2 t x = ix2 (0 : Fin 1) (col t (x 1)) := by
  funext z
  apply Fin.ext
  refine (Pipeline.Window.rect_emb_val win0_2 t x z rfl).trans ?_
  have h : (grid0.coords t 1).val < 12 := (grid0.coords t 1).isLt
  have hx : (x 0).val < 1 := (x 0).isLt
  change Fin 2 at z
  fin_cases z
  · show 0 * 1 + (x 0).val = 0; omega
  · show (BitVec.ofNat 32 (grid0.coords t 1).val).toNat * 512 + (x 1).val = (grid0.coords t 1).val * 512 + (x 1).val
    rw [BitVec.toNat_ofNat]; omega

/-! ## The blocks at a point -/

abbrev blk0 (t : Fin grid0.N) : FVec Ideal S1024x2048 .bf16 := iblk m c 0 t
abbrev blk1 (t : Fin grid0.N) : FVec Ideal S2048x512 .bf16 := iblk m c 1 t
abbrev blk2 (t : Fin grid0.N) : FVec Ideal S1x512 .f32 := iblk m c 2 t

theorem blk0_at (t : Fin grid0.N) (x : S1024x2048.Idx) : blk0 m c t x = Xa m c (ix2 (row t (x 0)) (x 1)) :=
  (congrArg (V m c main_arg0) (plc0_eq t x)).trans (congrFun (V_main_arg0 m c) _)
theorem blk1_at (t : Fin grid0.N) (x : S2048x512.Idx) : blk1 m c t x = Wa m c (ix2 (x 0) (col t (x 1))) :=
  (congrArg (V m c main_v8) (plc1_eq t x)).trans (V_w m c _)
theorem blk2_at (t : Fin grid0.N) (x : S1x512.Idx) : blk2 m c t x = gains (Qa m c) (Ka m c) (ix2 (0 : Fin 1) (col t (x 1))) :=
  (congrArg (V m c main_v9) (plc2_eq t x)).trans (congrFun (V_g m c) _)

/-- The product's tile at a point, and its values. -/
abbrev tile (t : Fin grid0.N) : FVec Ideal S1024x512 .f32 := k0_pay1 (F := Ideal) (blk0 m c t) (blk1 m c t)
theorem tile_at (t : Fin grid0.N) (j : S1024x512.Idx) : tile m c t j = prod m c (row t (j 0)) (col t (j 1)) := by
  refine (pay_at (blk0 m c t) (blk1 m c t) j).trans ?_
  unfold prod
  exact Finset.sum_congr rfl fun k _ => congrArg₂ (· * ·) (blk0_at m c t _) (blk1_at m c t _)

/-- What a point of the queries or keys leaves in its tile's buffer. -/
theorem after_norm (t : Fin cfg0.N) (h : t.val % 12 ≤ 7) : (dats m 0 c).after 3 t =
    k0_pay2 (F := Ideal) (k0_pay3 (blk2 m c t)) (k0_pay4 (tile m c t) (blk2 m c t)) (k0_pay5 (tile m c t) (blk2 m c t)) (k0_pay6 (tile m c t) (blk2 m c t)) (k0_pay7 (tile m c t)) (k0_pay8 (tile m c t)) := by
  rw [after0_3, outsAt0_A m c t h (by omega)]
  frame_out

/-- What a point of the values leaves in its tile's buffer. -/
theorem after_plain (t : Fin cfg0.N) (h : ¬t.val % 12 ≤ 7) : (dats m 0 c).after 3 t = tile m c t := by
  rw [after0_3, outsAt0_B m c t h (by omega)]
  frame_out

/-- The tile of a point of the queries or keys holds its part of the result. -/
theorem norm_at (t : Fin grid0.N) (h : t.val % 12 ≤ 7) (j : S1024x512.Idx) : cell (tile m c t) (blk2 m c t) (j 0) (j 1) = result m c (plc3 t j) := by
  rw [plc3_eq]
  have hj : (j 1).val < 512 := (j 1).isLt
  have hc : (col t (j 1)).val < 4096 := by
    show (grid0.coords t 1).val * 512 + (j 1).val < 4096
    rw [coord1]; omega
  have e : ∀ x, col t (grp (j 1) x) = head (col t (j 1)) x := fun x => Fin.ext (by
    show (grid0.coords t 1).val * 512 + ((j 1).val / 128 * 128 + x.val) = ((grid0.coords t 1).val * 512 + (j 1).val) / 128 * 128 + x.val
    omega)
  have ht : ∀ q, tile m c t (ix2 (j 0) q) = prod m c (row t (j 0)) (col t q) := fun q => tile_at m c t (ix2 (j 0) q)
  refine Eq.trans ?_ (if_pos hc).symm
  unfold cell
  refine congr (congr (congrArg scaled (ht _)) (Finset.sum_congr rfl fun x _ => ?_)) ((blk2_at m c t _).trans ((gains_at _ _ _ hc).trans rfl))
  exact (congrArg₂ (· * ·) (ht _) (ht _)).trans (congrArg (fun q => prod m c (row t (j 0)) q * prod m c (row t (j 0)) q) (e x))

/-- The tile of a point of the values holds its part of the result. -/
theorem plain_at (t : Fin grid0.N) (h : ¬t.val % 12 ≤ 7) (j : S1024x512.Idx) : tile m c t j = result m c (plc3 t j) := by
  rw [plc3_eq]
  have hc : ¬(col t (j 1)).val < 4096 := by
    show ¬(grid0.coords t 1).val * 512 + (j 1).val < 4096
    rw [coord1]; omega
  exact (tile_at m c t j).trans (if_neg hc).symm

/-- The tile of a row and a column. -/
def pt (i : S20480x6144.Idx) : Fin grid0.N :=
  ⟨12 * ((i 0).val / 1024) + (i 1).val / 512, by
    have h0 : (i 0).val < 20480 := (i 0).isLt
    have h1 : (i 1).val < 6144 := (i 1).isLt
    rw [show grid0.N = 240 from N_0]; omega⟩

theorem covered (i : S20480x6144.Idx) : i ∈ (win0_3.blk (pt i)).view.set := by
  have h0 : (i 0).val < 20480 := (i 0).isLt
  have h1 : (i 1).val < 6144 := (i 1).isLt
  have e : plc3 (pt i) (ix2 (⟨(i 0).val % 1024, Nat.mod_lt _ (by decide)⟩ : Fin 1024) (⟨(i 1).val % 512, Nat.mod_lt _ (by decide)⟩ : Fin 512)) = i := by
    rw [plc3_eq]
    funext z
    apply Fin.ext
    change Fin 2 at z
    fin_cases z
    · show (grid0.coords (pt i) 0).val * 1024 + (i 0).val % 1024 = (i 0).val
      rw [coord0]
      show (12 * ((i 0).val / 1024) + (i 1).val / 512) / 12 % 20 * 1024 + (i 0).val % 1024 = (i 0).val
      omega
    · show (grid0.coords (pt i) 1).val * 512 + (i 1).val % 512 = (i 1).val
      rw [coord1]
      show (12 * ((i 0).val / 1024) + (i 1).val / 512) / 1 % 12 * 512 + (i 1).val % 512 = (i 1).val
      omega
  generalize pt i = t at e ⊢
  exact e.subst (motive := fun z : S20480x6144.Idx => z ∈ (win0_3.blk t).view.set) (View.emb_mem_set _ _)

/-- The array after the run. -/
theorem final : (dats m 0 c).arrAt 3 cfg0.N = result m c := by
  refine (dats m 0 c).arrAt_eq_of_emb 3 (result m c) (fun t hf y => ?_) (fun i => ⟨pt i, flush0_3 _, covered i⟩)
  by_cases h : t.val % 12 ≤ 7
  · rw [after_norm m c t h]
    exact (heads_at (tile m c t) (blk2 m c t) y).trans (norm_at m c t h y)
  · rw [after_plain m c t h]
    exact plain_at m c t h y

end Cert.Kernel2Ideal.Proj
-- ==== Proof.Proj.QkvRef.lean ====
/- The reference's joint projection read at an index: the whole product, its queries and keys normalised head by head. -/
module

public import proofs.«01_k».proof.Proof.Gen.Reference2Ideal.Run
public import Idealize.ShloMosaic.Lib.Pipeline.ValueKit
public import proofs.«01_k».proof.Proof.Const.Words
public import proofs.«01_k».proof.Proof.Proj.Qkv

@[expose] public section

set_option maxRecDepth 16384

noncomputable section

namespace Cert.Reference2Ideal.Proj

open Cert.Reference2Ideal Cert.Reference2Ideal.Gen
open Idealize.ShloMosaic Idealize.ShloMosaic.TcCoe
open Cert.Kernel2Ideal.Proj (scaled)

/-! ## The reference's steps -/

/-- The product. -/
def prodT (x : FVec Ideal S20480x2048 .bf16) (w : FVec Ideal S2048x6144 .f32) : FVec Ideal S20480x3x16x128 .f32 :=
  shapeCast S20480x3x16x128 (Host.dotGeneral dot_S20480x2048_S2048x6144_S20480x6144_1_0_0_1_n_n none (extf .f32 x bitsLt_bf16_f32) w) shapeCasts_S20480x6144_S20480x3x16x128

/-- Its queries, keys and values. -/
def partQ (p : FVec Ideal S20480x3x16x128 .f32) : FVec Ideal S20480x16x128 .f32 :=
  shapeCast S20480x16x128 (extractStridedSlice S20480x1x16x128 ![0, 0, 0, 0] p slices_S20480x3x16x128_S20480x1x16x128_0_0_0_0) shapeCasts_S20480x1x16x128_S20480x16x128
def partK (p : FVec Ideal S20480x3x16x128 .f32) : FVec Ideal S20480x16x128 .f32 :=
  shapeCast S20480x16x128 (extractStridedSlice S20480x1x16x128 ![0, 1, 0, 0] p slices_S20480x3x16x128_S20480x1x16x128_0_1_0_0) shapeCasts_S20480x1x16x128_S20480x16x128
def partV (p : FVec Ideal S20480x3x16x128 .f32) : FVec Ideal S20480x16x128 .f32 :=
  shapeCast S20480x16x128 (extractStridedSlice S20480x1x16x128 ![0, 2, 0, 0] p slices_S20480x3x16x128_S20480x1x16x128_0_2_0_0) shapeCasts_S20480x1x16x128_S20480x16x128

/-- A head's values over the root of their mean square, times their gain. -/
def normT (z : FVec Ideal S20480x16x128 .f32) (g : FVec Ideal S128 .f32) : FVec Ideal S20480x16x128 .f32 :=
  mulf (mulf z (broadcastInDim S20480x16x128 ![0, 1, 2] bcast_S20480x16x1_S20480x16x128_0_1_2 (Host.rsqrt (addf (Host.divf (broadcastInDim S20480x16x1 ![0, 1] bcast_S20480x16_S20480x16x1_0_1 (Host.reduceAdd (mulf z z) (constant S_ .f32 0x00000000#32) reducesTo_S20480x16x128_S20480x16_d2 h_S_)) (broadcastInDim S20480x16x1 ![] bcast_S_S20480x16x1 (constant S_ .f32 0x43000000#32))) (broadcastInDim S20480x16x1 ![] bcast_S_S20480x16x1 (constant S_ .f32 0x358637BD#32))))))
    (broadcastInDim S20480x16x128 ![0, 1, 2] bcast_S1x1x128_S20480x16x128_0_1_2 (broadcastInDim S1x1x128 ![2] bcast_S128_S1x1x128_2 g))

/-- The three side by side. -/
def joinT (q k v : FVec Ideal S20480x16x128 .f32) : FVec Ideal S20480x6144 .f32 :=
  shapeCast S20480x6144 (concatenate S20480x3x16x128 1
    [⟨S20480x1x16x128, (broadcastInDim S20480x1x16x128 ![0, 2, 3] bcast_S20480x16x128_S20480x1x16x128_0_2_3 q : FVec Ideal S20480x1x16x128 .f32)⟩,
      ⟨S20480x1x16x128, (broadcastInDim S20480x1x16x128 ![0, 2, 3] bcast_S20480x16x128_S20480x1x16x128_0_2_3 k : FVec Ideal S20480x1x16x128 .f32)⟩,
      ⟨S20480x1x16x128, (broadcastInDim S20480x1x16x128 ![0, 2, 3] bcast_S20480x16x128_S20480x1x16x128_0_2_3 v : FVec Ideal S20480x1x16x128 .f32)⟩]
    concatenates_S20480x1x16x128_S20480x1x16x128_S20480x1x16x128_S20480x3x16x128_d1) shapeCasts_S20480x3x16x128_S20480x6144

/-! ## The steps read at an index -/

theorem prodT_at (x : FVec Ideal S20480x2048 .bf16) (w : FVec Ideal S2048x6144 .f32) (r : Fin 20480) (s : Fin 3) (h : Fin 16) (d : Fin 128) :
    prodT x w (ix4 r s h d) = ∑ k : Fin 2048, x (ix2 r k) * w (ix2 k (⟨s.val * 2048 + h.val * 128 + d.val, by omega⟩ : Fin 6144)) := by
  unfold prodT
  pointwise

theorem partQ_at (p : FVec Ideal S20480x3x16x128 .f32) (r : Fin 20480) (h : Fin 16) (d : Fin 128) : partQ p (ix3 r h d) = p (ix4 r (0 : Fin 3) h d) := by
  unfold partQ
  pointwise
theorem partK_at (p : FVec Ideal S20480x3x16x128 .f32) (r : Fin 20480) (h : Fin 16) (d : Fin 128) : partK p (ix3 r h d) = p (ix4 r (1 : Fin 3) h d) := by
  unfold partK
  pointwise
theorem partV_at (p : FVec Ideal S20480x3x16x128 .f32) (r : Fin 20480) (h : Fin 16) (d : Fin 128) : partV p (ix3 r h d) = p (ix4 r (2 : Fin 3) h d) := by
  unfold partV
  pointwise

theorem normT_at (z : FVec Ideal S20480x16x128 .f32) (g : FVec Ideal S128 .f32) (r : Fin 20480) (h : Fin 16) (d : Fin 128) :
    normT z g (ix3 r h d) = scaled (z (ix3 r h d)) (∑ x : Fin 128, z (ix3 r h x) * z (ix3 r h x)) (g (ix1 d)) := by
  unfold normT scaled
  pointwise
  rw [Cert.Words.div128]

/-- The head and the place in it of a column. -/
abbrev hd (j : Fin 6144) : Fin 16 := ⟨j.val / 128 % 16, Nat.mod_lt _ (by decide)⟩
abbrev dm (j : Fin 6144) : Fin 128 := ⟨j.val % 128, Nat.mod_lt _ (by decide)⟩

theorem joinT_at (q k v : FVec Ideal S20480x16x128 .f32) (i : S20480x6144.Idx) :
    joinT q k v i = if (i 1).val < 2048 then q (ix3 (i 0) (hd (i 1)) (dm (i 1)))
      else if (i 1).val < 4096 then k (ix3 (i 0) (hd (i 1)) (dm (i 1))) else v (ix3 (i 0) (hd (i 1)) (dm (i 1))) := by
  unfold joinT
  pointwise
  by_cases h0 : (i 1).val < 2048
  · exact (dif_pos (by omega)).trans (if_pos h0).symm
  refine (dif_neg (by omega)).trans (Eq.trans ?_ (if_neg h0).symm)
  by_cases h1 : (i 1).val < 4096
  · exact (dif_pos (by omega)).trans (if_pos h1).symm
  · exact (dif_neg (by omega)).trans (if_neg h1).symm

theorem out_eq (m : (ℓ : Loc nD τ sig) → Buf (Elt Ideal) ℓ) (c : Dev nD) :
    Cert.Reference2Ideal.Value.res_main_v39 m c
      = joinT (normT (partQ (prodT (m ((c : Thread nD τ).loc main_arg0)) (m ((c : Thread nD τ).loc main_arg1)))) (m ((c : Thread nD τ).loc main_arg2)))
          (normT (partK (prodT (m ((c : Thread nD τ).loc main_arg0)) (m ((c : Thread nD τ).loc main_arg1)))) (m ((c : Thread nD τ).loc main_arg3)))
          (partV (prodT (m ((c : Thread nD τ).loc main_arg0)) (m ((c : Thread nD τ).loc main_arg1)))) := by
  unfold Cert.Reference2Ideal.Value.res_main_v39
  rfl

/-! ## The same array as the kernel's -/

section
open Cert.Kernel2Ideal.Proj (Xa Wa Qa Ka prod head gain result)
variable (m : (ℓ : Loc Cert.Kernel2Ideal.nD Cert.Kernel2Ideal.τ Cert.Kernel2Ideal.sig) → Buf (Elt Ideal) ℓ) (c : Dev Cert.Kernel2Ideal.nD)

/-- A part's value is the product's at its column. -/
theorem prod_at (r : Fin 20480) (s : Fin 3) (h : Fin 16) (d : Fin 128) (j : Fin 6144) (e : s.val * 2048 + h.val * 128 + d.val = j.val) :
    prodT (Xa m c) (Wa m c) (ix4 r s h d) = prod m c r j := by
  refine (prodT_at _ _ r s h d).trans ?_
  unfold prod
  exact Finset.sum_congr rfl fun k _ => congrArg (fun q => Xa m c (ix2 r k) * Wa m c (ix2 k q)) (Fin.ext e)

/-- A normalised part at a column of its own. -/
theorem norm_at (z : FVec Ideal S20480x16x128 .f32) (g : FVec Ideal S128 .f32) (r : Fin 20480) (j : Fin 6144)
    (hz : ∀ (d : Fin 128) (q : Fin 6144), q.val = j.val / 128 * 128 + d.val → z (ix3 r (hd j) d) = prod m c r q) (hg : g (ix1 (dm j)) = gain m c j) :
    normT z g (ix3 r (hd j) (dm j)) = scaled (prod m c r j) (∑ x : Fin 128, prod m c r (head j x) * prod m c r (head j x)) (gain m c j) := by
  refine (normT_at z g r (hd j) (dm j)).trans (congr (congr (congrArg scaled (hz _ j ?_)) (Finset.sum_congr rfl fun x _ => ?_)) hg)
  · show j.val = j.val / 128 * 128 + j.val % 128; omega
  · exact congrArg₂ (· * ·) (hz x (head j x) rfl) (hz x (head j x) rfl)

theorem ref_eq :
    joinT (normT (partQ (prodT (Xa m c) (Wa m c))) (Qa m c)) (normT (partK (prodT (Xa m c) (Wa m c))) (Ka m c)) (partV (prodT (Xa m c) (Wa m c)))
      = result m c := by
  funext i
  have hi : (i 1).val < 6144 := (i 1).isLt
  refine (joinT_at _ _ _ i).trans ?_
  unfold result
  by_cases h0 : (i 1).val < 2048
  · refine (if_pos h0).trans (Eq.trans ?_ (if_pos (by omega)).symm)
    refine norm_at m c _ _ (i 0) (i 1) (fun d q hq => (partQ_at _ _ _ _).trans (prod_at m c _ _ _ _ q ?_)) (if_pos h0).symm
    show 0 * 2048 + (i 1).val / 128 % 16 * 128 + d.val = q.val
    omega
  refine (if_neg h0).trans ?_
  by_cases h1 : (i 1).val < 4096
  · refine (if_pos h1).trans (Eq.trans ?_ (if_pos h1).symm)
    refine norm_at m c _ _ (i 0) (i 1) (fun d q hq => (partK_at _ _ _ _).trans (prod_at m c _ _ _ _ q ?_)) (if_neg h0).symm
    show 1 * 2048 + (i 1).val / 128 % 16 * 128 + d.val = q.val
    omega
  · refine (if_neg h1).trans (Eq.trans ?_ (if_neg h1).symm)
    refine (partV_at _ _ _ _).trans (prod_at m c _ _ _ _ (i 1) ?_)
    show 2 * 2048 + (i 1).val / 128 % 16 * 128 + (i 1).val % 128 = (i 1).val
    omega

end

end Cert.Reference2Ideal.Proj
-- ==== Proof.Proj.Out.lean ====
/- The output projection with its gated residual: the array that the tiled call leaves is x + gate · (y W), row by row. -/
module

public import proofs.«01_k».proof.Proof.Gen.Kernel3Ideal.Value
public import proofs.«01_k».proof.Proof.Gen.Reference3Ideal.Run
public import Idealize.ShloMosaic.Lib.Pipeline.ValueKit

@[expose] public section

set_option maxRecDepth 16384

noncomputable section

namespace Cert.Kernel3Ideal.Proj

open Cert.Kernel3Ideal Cert.Kernel3Ideal.Gen
open Idealize.ShloMosaic Idealize.ShloMosaic.TcCoe
open Idealize.ShloMosaic.Pipeline (Dat)

variable (m : (ℓ : Loc nD τ sig) → Buf (Elt Ideal) ℓ) (c : Dev nD)

/-- The arguments at the types they are read at. -/
abbrev Ya : FVec Ideal S20480x2048 .bf16 := m ((c : Thread nD τ).loc main_arg0)
abbrev Wa : FVec Ideal S2048x2048 .f32 := m ((c : Thread nD τ).loc main_arg1)
abbrev Xa : FVec Ideal S20480x2048 .f32 := m ((c : Thread nD τ).loc main_arg2)
abbrev Ma : FVec Ideal S5x6x2048 .f32 := m ((c : Thread nD τ).loc main_arg3)

/-- The sequence a row belongs to: every sequence has 4096 rows. -/
abbrev seqOf (r : Fin 20480) : Fin 5 := ⟨r.val / 4096, by omega⟩

/-- What the kernel leaves: the residual and, gated by its sequence's third modulation, the product. -/
def result : FVec Ideal S20480x2048 .f32 := fun i =>
  Xa m c (ix2 (i 0) (i 1)) + Ma m c (ix3 (seqOf (i 0)) (2 : Fin 6) (i 1)) * ∑ k : Fin 2048, Ya m c (ix2 (i 0) k) * Wa m c (ix2 k (i 1))

/-- The weights, as the kernel is handed them. -/
theorem V_w (i : S2048x2048.Idx) : (show FVec Ideal S2048x2048 .bf16 from V m c main_v0) i = Wa m c (ix2 (i 0) (i 1)) := by
  entry_read
  pointwise
  try rfl

/-- One tile of the call. -/
theorem pay_at (y : FVec Ideal S1024x2048 .bf16) (w : FVec Ideal S2048x512 .bf16) (x : FVec Ideal S1024x512 .f32) (g : FVec Ideal S1x1x512 .f32) (j : S1024x512.Idx) :
    k0_pay1 (F := Ideal) y w x g j = x (ix2 (j 0) (j 1)) + g (ix3 (0 : Fin 1) (0 : Fin 1) (j 1)) * ∑ k : Fin 2048, y (ix2 (j 0) k) * w (ix2 k (j 1)) := by
  pointwise [k0_pay1]

/-! ## Where a tile sits -/

theorem coord0 (t : Fin grid0.N) : (grid0.coords t 0).val = t.val / 4 % 20 := Pipeline.Grid.coords_val t 0 (by decide) rfl
theorem coord1 (t : Fin grid0.N) : (grid0.coords t 1).val = t.val / 1 % 4 := Pipeline.Grid.coords_val t 1 (by decide) rfl

/-- The row and the column of the array that a tile's row and column are. -/
abbrev row (t : Fin grid0.N) (r : Fin 1024) : Fin 20480 := ⟨(grid0.coords t 0).val * 1024 + r.val, by have h : (grid0.coords t 0).val < 20 := (grid0.coords t 0).isLt; omega⟩
abbrev col (t : Fin grid0.N) (j : Fin 512) : Fin 2048 := ⟨(grid0.coords t 1).val * 512 + j.val, by have h : (grid0.coords t 1).val < 4 := (grid0.coords t 1).isLt; omega⟩

def plc0 (t : Fin grid0.N) (x : S1024x2048.Idx) : S20480x2048.Idx := (win0_0.blk t).view.emb x
theorem plc0_eq (t : Fin grid0.N) (x : S1024x2048.Idx) : plc0 t x = ix2 (row t (x 0)) (x 1) := by
  funext z
  apply Fin.ext
  refine (Pipeline.Window.rect_emb_val win0_0 t x z rfl).trans ?_
  have h : (grid0.coords t 0).val < 20 := (grid0.coords t 0).isLt
  change Fin 2 at z
  fin_cases z
  · show (BitVec.ofNat 32 (grid0.coords t 0).val).toNat * 1024 + (x 0).val = (grid0.coords t 0).val * 1024 + (x 0).val
    rw [BitVec.toNat_ofNat]; omega
  · show 0 * 2048 + (x 1).val = (x 1).val; omega

def plc1 (t : Fin grid0.N) (x : S2048x512.Idx) : S2048x2048.Idx := (win0_1.blk t).view.emb x
theorem plc1_eq (t : Fin grid0.N) (x : S2048x512.Idx) : plc1 t x = ix2 (x 0) (col t (x 1)) := by
  funext z
  apply Fin.ext
  refine (Pipeline.Window.rect_emb_val win0_1 t x z rfl).trans ?_
  have h : (grid0.coords t 1).val < 4 := (grid0.coords t 1).isLt
  change Fin 2 at z
  fin_cases z
  · show 0 * 2048 + (x 0).val = (x 0).val; omega
  · show (BitVec.ofNat 32 (grid0.coords t 1).val).toNat * 512 + (x 1).val = (grid0.coords t 1).val * 512 + (x 1).val
    rw [BitVec.toNat_ofNat]; omega

def plc4 (t : Fin grid0.N) (x : S1024x512.Idx) : S20480x2048.Idx := (win0_4.blk t).view.emb x
theorem plc4_eq (t : Fin grid0.N) (x : S1024x512.Idx) : plc4 t x = ix2 (row t (x 0)) (col t (x 1)) := by
  funext z
  apply Fin.ext
  refine (Pipeline.Window.rect_emb_val win0_4 t x z rfl).trans ?_
  have h : (grid0.coords t 0).val < 20 := (grid0.coords t 0).isLt
  have h' : (grid0.coords t 1).val < 4 := (grid0.coords t 1).isLt
  change Fin 2 at z
  fin_cases z
  · show (BitVec.ofNat 32 (grid0.coords t 0).val).toNat * 1024 + (x 0).val = (grid0.coords t 0).val * 1024 + (x 0).val
    rw [BitVec.toNat_ofNat]; omega
  · show (BitVec.ofNat 32 (grid0.coords t 1).val).toNat * 512 + (x 1).val = (grid0.coords t 1).val * 512 + (x 1).val
    rw [BitVec.toNat_ofNat]; omega

def plc2 (t : Fin grid0.N) (x : S1024x512.Idx) : S20480x2048.Idx := (win0_2.blk t).view.emb x
theorem plc2_eq (t : Fin grid0.N) (x : S1024x512.Idx) : plc2 t x = ix2 (row t (x 0)) (col t (x 1)) := plc4_eq t x

/-- Four tiles of rows to a sequence: the modulation's block is the row tile's quarter. -/
theorem index3 : ∀ t : Fin grid0.N, win0_3.index t 0 = (grid0.coords t 0).val / 4 ∧ win0_3.index t 1 = 0 ∧ win0_3.index t 2 = (grid0.coords t 1).val := by
  decide +kernel

abbrev sq (t : Fin grid0.N) : Fin 5 := ⟨(grid0.coords t 0).val / 4, by have h : (grid0.coords t 0).val < 20 := (grid0.coords t 0).isLt; omega⟩
def plc3 (t : Fin grid0.N) (x : S1x6x512.Idx) : S5x6x2048.Idx := (win0_3.blk t).view.emb x
theorem plc3_eq (t : Fin grid0.N) (x : S1x6x512.Idx) : plc3 t x = ix3 (sq t) (x 1) (col t (x 2)) := by
  funext z
  apply Fin.ext
  refine (Pipeline.Window.rect_emb_val win0_3 t x z rfl).trans ?_
  obtain ⟨h0, h1, h2⟩ := index3 t
  have hx : (x 0).val < 1 := (x 0).isLt
  change Fin 3 at z
  fin_cases z
  · refine (congrArg (· * 1 + (x 0).val) h0).trans ?_
    show (grid0.coords t 0).val / 4 * 1 + (x 0).val = (grid0.coords t 0).val / 4; omega
  · refine (congrArg (· * 6 + (x 1).val) h1).trans ?_
    show 0 * 6 + (x 1).val = (x 1).val; omega
  · exact congrArg (· * 512 + (x 2).val) h2

/-! ## The blocks at a point -/

abbrev blk0 (t : Fin grid0.N) : FVec Ideal S1024x2048 .bf16 := iblk m c 0 t
abbrev blk1 (t : Fin grid0.N) : FVec Ideal S2048x512 .bf16 := iblk m c 1 t
abbrev blk2 (t : Fin grid0.N) : FVec Ideal S1024x512 .f32 := iblk m c 2 t
abbrev blk3 (t : Fin grid0.N) : FVec Ideal S1x6x512 .f32 := iblk m c 3 t

theorem blk0_at (t : Fin grid0.N) (x : S1024x2048.Idx) : blk0 m c t x = Ya m c (ix2 (row t (x 0)) (x 1)) :=
  (congrArg (V m c main_arg0) (plc0_eq t x)).trans (congrFun (V_main_arg0 m c) _)
theorem blk1_at (t : Fin grid0.N) (x : S2048x512.Idx) : blk1 m c t x = Wa m c (ix2 (x 0) (col t (x 1))) :=
  (congrArg (V m c main_v0) (plc1_eq t x)).trans (V_w m c _)
theorem blk2_at (t : Fin grid0.N) (x : S1024x512.Idx) : blk2 m c t x = Xa m c (ix2 (row t (x 0)) (col t (x 1))) :=
  (congrArg (V m c main_arg2) (plc2_eq t x)).trans (congrFun (V_main_arg2 m c) _)
theorem blk3_at (t : Fin grid0.N) (x : S1x6x512.Idx) : blk3 m c t x = Ma m c (ix3 (sq t) (x 1) (col t (x 2))) :=
  (congrArg (V m c main_arg3) (plc3_eq t x)).trans (congrFun (V_main_arg3 m c) _)

/-- The gate of a tile: the third row of the sequence's modulation. -/
def gate (t : Fin grid0.N) : FVec Ideal S1x1x512 .f32 := fun y => blk3 m c t (ix3 (0 : Fin 1) (2 : Fin 6) (y 2))

/-- What a point leaves in its tile's buffer. -/
theorem after_eq (t : Fin cfg0.N) : (dats m 0 c).after 4 t = k0_pay1 (F := Ideal) (blk0 m c t) (blk1 m c t) (blk2 m c t) (gate m c t) := by
  rw [after0_4]
  frame_out
  refine congrArg (k0_pay1 (F := Ideal) (blk0 m c t) (blk1 m c t) (blk2 m c t)) (funext fun y => ?_)
  refine congrArg (blk3 m c t) (funext fun z => Fin.ext ?_)
  have h0 : (y 0).val < 1 := (y 0).isLt
  have h1 : (y 1).val < 1 := (y 1).isLt
  change Fin 3 at z
  fin_cases z
  · show 0 + 1 * (y 0).val = 0; omega
  · show 2 + 1 * (y 1).val = 2; omega
  · show 0 + 1 * (y 2).val = (y 2).val; omega

/-- So the tile holds its part of the result. -/
theorem tile_at (t : Fin grid0.N) (j : S1024x512.Idx) :
    k0_pay1 (F := Ideal) (blk0 m c t) (blk1 m c t) (blk2 m c t) (gate m c t) j = result m c (plc4 t j) := by
  rw [plc4_eq]
  refine (pay_at (blk0 m c t) (blk1 m c t) (blk2 m c t) (gate m c t) j).trans ?_
  unfold result
  refine congrArg₂ (· + ·) (blk2_at m c t _) (congrArg₂ (· * ·) ((blk3_at m c t _).trans (congrArg (Ma m c) ?_)) (Finset.sum_congr rfl fun k _ => congrArg₂ (· * ·) (blk0_at m c t _) (blk1_at m c t _)))
  have h : sq t = seqOf (row t (j 0)) := Fin.ext (by
    show (grid0.coords t 0).val / 4 = ((grid0.coords t 0).val * 1024 + (j 0).val) / 4096
    have hj : (j 0).val < 1024 := (j 0).isLt
    omega)
  exact congrArg (fun s => ix3 s (2 : Fin 6) (col t (j 1))) h

/-- The tile of a row and a column. -/
def pt (i : S20480x2048.Idx) : Fin grid0.N :=
  ⟨4 * ((i 0).val / 1024) + (i 1).val / 512, by
    have h0 : (i 0).val < 20480 := (i 0).isLt
    have h1 : (i 1).val < 2048 := (i 1).isLt
    rw [show grid0.N = 80 from N_0]; omega⟩

theorem covered (i : S20480x2048.Idx) : i ∈ (win0_4.blk (pt i)).view.set := by
  have h0 : (i 0).val < 20480 := (i 0).isLt
  have h1 : (i 1).val < 2048 := (i 1).isLt
  have e : plc4 (pt i) (ix2 (⟨(i 0).val % 1024, Nat.mod_lt _ (by decide)⟩ : Fin 1024) (⟨(i 1).val % 512, Nat.mod_lt _ (by decide)⟩ : Fin 512)) = i := by
    rw [plc4_eq]
    funext z
    apply Fin.ext
    change Fin 2 at z
    fin_cases z
    · show (grid0.coords (pt i) 0).val * 1024 + (i 0).val % 1024 = (i 0).val
      rw [coord0]
      show (4 * ((i 0).val / 1024) + (i 1).val / 512) / 4 % 20 * 1024 + (i 0).val % 1024 = (i 0).val
      omega
    · show (grid0.coords (pt i) 1).val * 512 + (i 1).val % 512 = (i 1).val
      rw [coord1]
      show (4 * ((i 0).val / 1024) + (i 1).val / 512) / 1 % 4 * 512 + (i 1).val % 512 = (i 1).val
      omega
  generalize pt i = t at e ⊢
  exact e.subst (motive := fun z : S20480x2048.Idx => z ∈ (win0_4.blk t).view.set) (View.emb_mem_set _ _)

/-- The array after the run. -/
theorem final : (dats m 0 c).arrAt 4 cfg0.N = result m c := by
  refine (dats m 0 c).arrAt_eq_of_emb 4 (result m c) (fun t hf y => ?_) (fun i => ⟨pt i, flush0_4 _, covered i⟩)
  rw [after_eq]
  exact tile_at m c t y

/-- The reference's array, one operation after another, is the same. -/
theorem ref_eq :
    shapeCast Cert.Reference3Ideal.S20480x2048
      (addf (F := Ideal) (shapeCast Cert.Reference3Ideal.S5x4096x2048 (Xa m c) Cert.Reference3Ideal.Gen.shapeCasts_S20480x2048_S5x4096x2048)
        (mulf (broadcastInDim Cert.Reference3Ideal.S5x4096x2048 ![0, 1, 2] Cert.Reference3Ideal.Gen.bcast_S5x1x2048_S5x4096x2048_0_1_2
            (broadcastInDim Cert.Reference3Ideal.S5x1x2048 ![0, 2] Cert.Reference3Ideal.Gen.bcast_S5x2048_S5x1x2048_0_2
              (shapeCast Cert.Reference3Ideal.S5x2048
                (extractStridedSlice Cert.Reference3Ideal.S5x1x2048 ![0, 2, 0] (Ma m c) Cert.Reference3Ideal.Gen.slices_S5x6x2048_S5x1x2048_0_2_0)
                Cert.Reference3Ideal.Gen.shapeCasts_S5x1x2048_S5x2048)))
          (shapeCast Cert.Reference3Ideal.S5x4096x2048
            (Host.dotGeneral (F := Ideal) Cert.Reference3Ideal.dot_S20480x2048_S2048x2048_S20480x2048_1_0_0_1_n_n none
              (extf .f32 (Ya m c) Cert.Reference3Ideal.Gen.bitsLt_bf16_f32) (Wa m c))
            Cert.Reference3Ideal.Gen.shapeCasts_S20480x2048_S5x4096x2048)))
      Cert.Reference3Ideal.Gen.shapeCasts_S5x4096x2048_S20480x2048
      = result m c := by
  funext i
  unfold result
  pointwise

end Cert.Kernel3Ideal.Proj
-- ==== Proof.Proj.In.lean ====
/- The input projection of layer 0: the array that the tiled product leaves is the whole product. -/
module

public import proofs.«01_k».proof.Proof.Gen.Kernel4Ideal.Value
public import proofs.«01_k».proof.Proof.Gen.Reference4Ideal.Run
public import Idealize.ShloMosaic.Lib.Pipeline.ValueKit

@[expose] public section

set_option maxRecDepth 16384

noncomputable section

namespace Cert.Kernel4Ideal.Proj

open Cert.Kernel4Ideal Cert.Kernel4Ideal.Gen
open Idealize.ShloMosaic Idealize.ShloMosaic.TcCoe
open Idealize.ShloMosaic.Pipeline (Dat)

variable (m : (ℓ : Loc nD τ sig) → Buf (Elt Ideal) ℓ) (c : Dev nD)

/-- The arguments at the types they are read at. -/
abbrev Xa : FVec Ideal S20480x2048 .bf16 := m ((c : Thread nD τ).loc main_arg0)
abbrev Wa : FVec Ideal S2048x4176 .f32 := m ((c : Thread nD τ).loc main_arg1)

/-- A column of the projection as a column of the weights. -/
abbrev wcol (j : Fin 3072) : Fin 4176 := ⟨j.val, by omega⟩

/-- What the kernel leaves: the product of the rows with the weights' first columns. -/
def result : FVec Ideal S20480x3072 .f32 := fun i => ∑ k : Fin 2048, Xa m c (ix2 (i 0) k) * Wa m c (ix2 k (wcol (i 1)))

/-- The weights' columns, as the kernel is handed them. -/
theorem V_w (i : S2048x3072.Idx) : (show FVec Ideal S2048x3072 .bf16 from V m c main_v1) i = Wa m c (ix2 (i 0) (wcol (i 1))) := by
  entry_read
  pointwise
  try rfl

/-- One tile of the product. -/
theorem pay_at (x : FVec Ideal S1024x2048 .bf16) (w : FVec Ideal S2048x512 .bf16) (j : S1024x512.Idx) :
    k0_pay1 (F := Ideal) x w j = ∑ k : Fin 2048, x (ix2 (j 0) k) * w (ix2 k (j 1)) := by
  pointwise [k0_pay1]

/-! ## Where a tile sits -/

theorem coord0 (t : Fin grid0.N) : (grid0.coords t 0).val = t.val / 6 % 20 := Pipeline.Grid.coords_val t 0 (by decide) rfl
theorem coord1 (t : Fin grid0.N) : (grid0.coords t 1).val = t.val / 1 % 6 := Pipeline.Grid.coords_val t 1 (by decide) rfl

/-- The row and the column of the array that a tile's row and column are. -/
abbrev row (t : Fin grid0.N) (r : Fin 1024) : Fin 20480 := ⟨(grid0.coords t 0).val * 1024 + r.val, by have h : (grid0.coords t 0).val < 20 := (grid0.coords t 0).isLt; omega⟩
abbrev col (t : Fin grid0.N) (j : Fin 512) : Fin 3072 := ⟨(grid0.coords t 1).val * 512 + j.val, by have h : (grid0.coords t 1).val < 6 := (grid0.coords t 1).isLt; omega⟩

def plc0 (t : Fin grid0.N) (x : S1024x2048.Idx) : S20480x2048.Idx := (win0_0.blk t).view.emb x
theorem plc0_eq (t : Fin grid0.N) (x : S1024x2048.Idx) : plc0 t x = ix2 (row t (x 0)) (x 1) := by
  funext z
  apply Fin.ext
  refine (Pipeline.Window.rect_emb_val win0_0 t x z rfl).trans ?_
  have h : (grid0.coords t 0).val < 20 := (grid0.coords t 0).isLt
  change Fin 2 at z
  fin_cases z
  · show (BitVec.ofNat 32 (grid0.coords t 0).val).toNat * 1024 + (x 0).val = (grid0.coords t 0).val * 1024 + (x 0).val
    rw [BitVec.toNat_ofNat]; omega
  · show 0 * 2048 + (x 1).val = (x 1).val; omega

def plc1 (t : Fin grid0.N) (x : S2048x512.Idx) : S2048x3072.Idx := (win0_1.blk t).view.emb x
theorem plc1_eq (t : Fin grid0.N) (x : S2048x512.Idx) : plc1 t x = ix2 (x 0) (col t (x 1)) := by
  funext z
  apply Fin.ext
  refine (Pipeline.Window.rect_emb_val win0_1 t x z rfl).trans ?_
  have h : (grid0.coords t 1).val < 6 := (grid0.coords t 1).isLt
  change Fin 2 at z
  fin_cases z
  · show 0 * 2048 + (x 0).val = (x 0).val; omega
  · show (BitVec.ofNat 32 (grid0.coords t 1).val).toNat * 512 + (x 1).val = (grid0.coords t 1).val * 512 + (x 1).val
    rw [BitVec.toNat_ofNat]; omega

def plc2 (t : Fin grid0.N) (x : S1024x512.Idx) : S20480x3072.Idx := (win0_2.blk t).view.emb x
theorem plc2_eq (t : Fin grid0.N) (x : S1024x512.Idx) : plc2 t x = ix2 (row t (x 0)) (col t (x 1)) := by
  funext z
  apply Fin.ext
  refine (Pipeline.Window.rect_emb_val win0_2 t x z rfl).trans ?_
  have h : (grid0.coords t 0).val < 20 := (grid0.coords t 0).isLt
  have h' : (grid0.coords t 1).val < 6 := (grid0.coords t 1).isLt
  change Fin 2 at z
  fin_cases z
  · show (BitVec.ofNat 32 (grid0.coords t 0).val).toNat * 1024 + (x 0).val = (grid0.coords t 0).val * 1024 + (x 0).val
    rw [BitVec.toNat_ofNat]; omega
  · show (BitVec.ofNat 32 (grid0.coords t 1).val).toNat * 512 + (x 1).val = (grid0.coords t 1).val * 512 + (x 1).val
    rw [BitVec.toNat_ofNat]; omega

/-! ## The blocks at a point -/

abbrev blk0 (t : Fin grid0.N) : FVec Ideal S1024x2048 .bf16 := iblk m c 0 t
abbrev blk1 (t : Fin grid0.N) : FVec Ideal S2048x512 .bf16 := iblk m c 1 t

theorem blk0_at (t : Fin grid0.N) (x : S1024x2048.Idx) : blk0 m c t x = Xa m c (ix2 (row t (x 0)) (x 1)) :=
  (congrArg (V m c main_arg0) (plc0_eq t x)).trans (congrFun (V_main_arg0 m c) _)
theorem blk1_at (t : Fin grid0.N) (x : S2048x512.Idx) : blk1 m c t x = Wa m c (ix2 (x 0) (wcol (col t (x 1)))) :=
  (congrArg (V m c main_v1) (plc1_eq t x)).trans (V_w m c _)

/-- What a point leaves in its tile's buffer. -/
theorem after_eq (t : Fin cfg0.N) : (dats m 0 c).after 2 t = k0_pay1 (F := Ideal) (blk0 m c t) (blk1 m c t) := by
  rw [after0_2]
  frame_out

/-- So the tile holds its part of the product. -/
theorem tile_at (t : Fin grid0.N) (j : S1024x512.Idx) :
    k0_pay1 (F := Ideal) (blk0 m c t) (blk1 m c t) j = result m c (plc2 t j) := by
  rw [plc2_eq]
  refine (pay_at (blk0 m c t) (blk1 m c t) j).trans ?_
  unfold result
  exact Finset.sum_congr rfl fun k _ => congrArg₂ (· * ·) (blk0_at m c t _) (blk1_at m c t _)

/-- The tile of a row and a column. -/
def pt (i : S20480x3072.Idx) : Fin grid0.N :=
  ⟨6 * ((i 0).val / 1024) + (i 1).val / 512, by
    have h0 : (i 0).val < 20480 := (i 0).isLt
    have h1 : (i 1).val < 3072 := (i 1).isLt
    rw [show grid0.N = 120 from N_0]; omega⟩

theorem covered (i : S20480x3072.Idx) : i ∈ (win0_2.blk (pt i)).view.set := by
  have h0 : (i 0).val < 20480 := (i 0).isLt
  have h1 : (i 1).val < 3072 := (i 1).isLt
  have e : plc2 (pt i) (ix2 (⟨(i 0).val % 1024, Nat.mod_lt _ (by decide)⟩ : Fin 1024) (⟨(i 1).val % 512, Nat.mod_lt _ (by decide)⟩ : Fin 512)) = i := by
    rw [plc2_eq]
    funext z
    apply Fin.ext
    change Fin 2 at z
    fin_cases z
    · show (grid0.coords (pt i) 0).val * 1024 + (i 0).val % 1024 = (i 0).val
      rw [coord0]
      show (6 * ((i 0).val / 1024) + (i 1).val / 512) / 6 % 20 * 1024 + (i 0).val % 1024 = (i 0).val
      omega
    · show (grid0.coords (pt i) 1).val * 512 + (i 1).val % 512 = (i 1).val
      rw [coord1]
      show (6 * ((i 0).val / 1024) + (i 1).val / 512) / 1 % 6 * 512 + (i 1).val % 512 = (i 1).val
      omega
  generalize pt i = t at e ⊢
  exact e.subst (motive := fun z : S20480x3072.Idx => z ∈ (win0_2.blk t).view.set) (View.emb_mem_set _ _)

/-- The array after the run. -/
theorem final : (dats m 0 c).arrAt 2 cfg0.N = result m c := by
  refine (dats m 0 c).arrAt_eq_of_emb 2 (result m c) (fun t hf y => ?_) (fun i => ⟨pt i, flush0_2 _, covered i⟩)
  rw [after_eq]
  exact tile_at m c t y

/-- The reference's product of the rows with the weights' first columns is the same array. -/
theorem ref_eq :
    Host.dotGeneral (F := Ideal) Cert.Reference4Ideal.dot_S20480x2048_S2048x3072_S20480x3072_1_0_0_1_n_n none
        (extf .f32 (Xa m c) Cert.Reference4Ideal.Gen.bitsLt_bf16_f32)
        (extractStridedSlice Cert.Reference4Ideal.S2048x3072 ![0, 0] (Wa m c) Cert.Reference4Ideal.Gen.slices_S2048x4176_S2048x3072_0_0)
      = result m c := by
  funext i
  unfold result
  pointwise
  try rfl

end Cert.Kernel4Ideal.Proj
-- ==== Proof.Proj.InB.lean ====
/- The input projection of layer 0, the columns of its latent attention: the array that the tiled product leaves is the
   product with the weights' last 1,088 columns, and zero in the 192 columns the weights are padded by. -/
module

public import proofs.«01_k».proof.Proof.Gen.Kernel5Ideal.Frame
public import proofs.«01_k».proof.Proof.Gen.Reference5Ideal.Run
public import Idealize.ShloMosaic.Lib.Pipeline.ValueKit
public import Idealize.ShloMosaic.Lib.KernelVsHost

@[expose] public section

set_option maxRecDepth 16384

noncomputable section

namespace Cert.Kernel5Ideal.Proj

open Cert.Kernel5Ideal Cert.Kernel5Ideal.Gen
open Idealize.ShloMosaic Idealize.ShloMosaic.TcCoe
open Idealize.ShloMosaic.Pipeline (Dat)

variable (m : (ℓ : Loc nD τ sig) → Buf (Elt Ideal) ℓ) (c : Dev nD)

/-- The arguments at the types they are read at. -/
abbrev Xa : FVec Ideal S20480x2048 .bf16 := m ((c : Thread nD τ).loc main_arg0)
abbrev Wa : FVec Ideal S2048x4176 .f32 := m ((c : Thread nD τ).loc main_arg1)

/-- A matrix of 1,088 columns with zeros behind them, as both programs pad it: read at a place. -/
theorem pad_at {n : Nat} (x : FVec Ideal ⟨2, ![n, 1088]⟩ .f32) (z : FVec Ideal S_ .f32) (h : Shape.Pads (s := ⟨2, ![n, 1088]⟩) ![0, 0] ![0, 192] ![0, 0] ⟨2, ![n, 1280]⟩)
    (hu : 0 < S_.numel) (r : Fin n) (j : Fin 1280) :
    pad ⟨2, ![n, 1280]⟩ ![0, 0] ![0, 192] ![0, 0] x z h hu (ix2 r j) = if hj : j.val < 1088 then x (ix2 r ⟨j.val, hj⟩) else z (Shape.Idx.first hu) := by
  by_cases hj : j.val < 1088
  · rw [dif_pos hj]
    refine pad_apply_of_inside _ _ _ x z h hu (ix2 r j) (ix2 r ⟨j.val, hj⟩) fun a => ?_
    change Fin 2 at a
    fin_cases a
    · show r.val = 0 + r.val * (0 + 1); omega
    · show j.val = 0 + j.val * (0 + 1); omega
  · rw [dif_neg hj]
    refine pad_apply_of_not_inside _ _ _ x z h hu (ix2 r j) (1 : Fin 2) fun hk => hj ?_
    have h3 : (j.val - 0) / (0 + 1) < 1088 := hk.2.2
    omega

/-- The word zero as a number. -/
theorem zero_word : (sitofp .f32 (constantI S_ 32 0#32) : FVec Ideal S_ .f32) (Shape.Idx.first h_S_) = 0 := by
  show (((0#32 : BitVec 32).toInt : ℝ) : EReal) = 0
  simp

/-- A weight, or zero behind the last column. -/
def wpad (k : Fin 2048) (j : Fin 1280) : EReal := if hj : j.val < 1088 then Wa m c (ix2 k ⟨3088 + j.val, by omega⟩) else 0

/-- What the kernel leaves: the product of the rows with the padded columns. -/
def result : FVec Ideal S20480x1280 .f32 := fun i => ∑ k : Fin 2048, Xa m c (ix2 (i 0) k) * wpad m c k (i 1)

/-- The weights' columns, as the kernel is handed them. -/
theorem V_w (i : S2048x1280.Idx) : (show FVec Ideal S2048x1280 .bf16 from V m c main_v2) i = wpad m c (i 0) (i 1) := by
  have e : (show FVec Ideal S2048x1280 .bf16 from V m c main_v2)
      = truncf .bf16 (pad S2048x1280 ![0, 0] ![0, 192] ![0, 0] (extractStridedSlice S2048x1088 ![0, 3088] (Wa m c) slices_S2048x4176_S2048x1088_0_3088)
          (sitofp .f32 (constantI S_ 32 0#32)) pads_S2048x1088_S2048x1280_000_01920 h_S_) bitsLt_bf16_f32 := by
    show StableHlo.after [hostOps0, hostOps0_1, hostOps0_2].flatten _ _ = _
    simp only [List.flatten_cons, List.flatten_nil, List.append_nil, List.cons_append, List.nil_append]
    after_results
    rfl
  obtain ⟨r, j, rfl⟩ : ∃ (r : Fin 2048) (j : Fin 1280), i = ix2 r j :=
    ⟨i 0, i 1, funext fun a => by change Fin 2 at a; fin_cases a <;> rfl⟩
  rw [e]
  refine (pad_at (n := 2048) (extractStridedSlice S2048x1088 ![0, 3088] (Wa m c) slices_S2048x4176_S2048x1088_0_3088)
    (sitofp .f32 (constantI S_ 32 0#32)) pads_S2048x1088_S2048x1280_000_01920 h_S_ r j).trans ?_
  show _ = wpad m c r j
  unfold wpad
  by_cases hj : j.val < 1088
  · rw [dif_pos hj, dif_pos hj]
    pointwise
  · rw [dif_neg hj, dif_neg hj, zero_word]

/-- One tile of the product. -/
theorem pay_at (x : FVec Ideal S1024x2048 .bf16) (w : FVec Ideal S2048x1280 .bf16) (j : S1024x1280.Idx) :
    k0_pay1 (F := Ideal) x w j = ∑ k : Fin 2048, x (ix2 (j 0) k) * w (ix2 k (j 1)) := by
  pointwise [k0_pay1]

/-! ## Where a tile sits -/

theorem coord0 (t : Fin grid0.N) : (grid0.coords t 0).val = t.val / 1 % 20 := Pipeline.Grid.coords_val t 0 (by decide) rfl
theorem coord1 (t : Fin grid0.N) : (grid0.coords t 1).val = t.val / 1 % 1 := Pipeline.Grid.coords_val t 1 (by decide) rfl

/-- The row and the column of the array that a tile's row and column are. -/
abbrev row (t : Fin grid0.N) (r : Fin 1024) : Fin 20480 := ⟨(grid0.coords t 0).val * 1024 + r.val, by have h : (grid0.coords t 0).val < 20 := (grid0.coords t 0).isLt; omega⟩
abbrev col (t : Fin grid0.N) (j : Fin 1280) : Fin 1280 := ⟨(grid0.coords t 1).val * 1280 + j.val, by have h : (grid0.coords t 1).val < 1 := (grid0.coords t 1).isLt; omega⟩

def plc0 (t : Fin grid0.N) (x : S1024x2048.Idx) : S20480x2048.Idx := (win0_0.blk t).view.emb x
theorem plc0_eq (t : Fin grid0.N) (x : S1024x2048.Idx) : plc0 t x = ix2 (row t (x 0)) (x 1) := by
  funext z
  apply Fin.ext
  refine (Pipeline.Window.rect_emb_val win0_0 t x z rfl).trans ?_
  have h : (grid0.coords t 0).val < 20 := (grid0.coords t 0).isLt
  change Fin 2 at z
  fin_cases z
  · show (BitVec.ofNat 32 (grid0.coords t 0).val).toNat * 1024 + (x 0).val = (grid0.coords t 0).val * 1024 + (x 0).val
    rw [BitVec.toNat_ofNat]; omega
  · show 0 * 2048 + (x 1).val = (x 1).val; omega

def plc1 (t : Fin grid0.N) (x : S2048x1280.Idx) : S2048x1280.Idx := (win0_1.blk t).view.emb x
theorem plc1_eq (t : Fin grid0.N) (x : S2048x1280.Idx) : plc1 t x = ix2 (x 0) (col t (x 1)) := by
  funext z
  apply Fin.ext
  refine (Pipeline.Window.rect_emb_val win0_1 t x z rfl).trans ?_
  have h : (grid0.coords t 1).val < 1 := (grid0.coords t 1).isLt
  change Fin 2 at z
  fin_cases z
  · show 0 * 2048 + (x 0).val = (x 0).val; omega
  · show (BitVec.ofNat 32 (grid0.coords t 1).val).toNat * 1280 + (x 1).val = (grid0.coords t 1).val * 1280 + (x 1).val
    rw [BitVec.toNat_ofNat]; omega

def plc2 (t : Fin grid0.N) (x : S1024x1280.Idx) : S20480x1280.Idx := (win0_2.blk t).view.emb x
theorem plc2_eq (t : Fin grid0.N) (x : S1024x1280.Idx) : plc2 t x = ix2 (row t (x 0)) (col t (x 1)) := by
  funext z
  apply Fin.ext
  refine (Pipeline.Window.rect_emb_val win0_2 t x z rfl).trans ?_
  have h : (grid0.coords t 0).val < 20 := (grid0.coords t 0).isLt
  have h' : (grid0.coords t 1).val < 1 := (grid0.coords t 1).isLt
  change Fin 2 at z
  fin_cases z
  · show (BitVec.ofNat 32 (grid0.coords t 0).val).toNat * 1024 + (x 0).val = (grid0.coords t 0).val * 1024 + (x 0).val
    rw [BitVec.toNat_ofNat]; omega
  · show (BitVec.ofNat 32 (grid0.coords t 1).val).toNat * 1280 + (x 1).val = (grid0.coords t 1).val * 1280 + (x 1).val
    rw [BitVec.toNat_ofNat]; omega

/-! ## The blocks at a point -/

abbrev blk0 (t : Fin grid0.N) : FVec Ideal S1024x2048 .bf16 := iblk m c 0 t
abbrev blk1 (t : Fin grid0.N) : FVec Ideal S2048x1280 .bf16 := iblk m c 1 t

theorem blk0_at (t : Fin grid0.N) (x : S1024x2048.Idx) : blk0 m c t x = Xa m c (ix2 (row t (x 0)) (x 1)) :=
  (congrArg (V m c main_arg0) (plc0_eq t x)).trans (congrFun (V_main_arg0 m c) _)
theorem blk1_at (t : Fin grid0.N) (x : S2048x1280.Idx) : blk1 m c t x = wpad m c (x 0) (col t (x 1)) :=
  (congrArg (V m c main_v2) (plc1_eq t x)).trans (V_w m c _)

/-- What a point leaves in its tile's buffer. -/
theorem after_eq (t : Fin cfg0.N) : (dats m 0 c).after 2 t = k0_pay1 (F := Ideal) (blk0 m c t) (blk1 m c t) := by
  rw [after0_2]
  frame_out

/-- So the tile holds its part of the product. -/
theorem tile_at (t : Fin grid0.N) (j : S1024x1280.Idx) :
    k0_pay1 (F := Ideal) (blk0 m c t) (blk1 m c t) j = result m c (plc2 t j) := by
  rw [plc2_eq]
  refine (pay_at (blk0 m c t) (blk1 m c t) j).trans ?_
  unfold result
  exact Finset.sum_congr rfl fun k _ => congrArg₂ (· * ·) (blk0_at m c t _) (blk1_at m c t _)

/-- The tile of a row and a column. -/
def pt (i : S20480x1280.Idx) : Fin grid0.N :=
  ⟨(i 0).val / 1024, by
    have h0 : (i 0).val < 20480 := (i 0).isLt
    have h1 : (i 1).val < 1280 := (i 1).isLt
    rw [show grid0.N = 20 from N_0]; omega⟩

theorem covered (i : S20480x1280.Idx) : i ∈ (win0_2.blk (pt i)).view.set := by
  have h0 : (i 0).val < 20480 := (i 0).isLt
  have h1 : (i 1).val < 1280 := (i 1).isLt
  have e : plc2 (pt i) (ix2 (⟨(i 0).val % 1024, Nat.mod_lt _ (by decide)⟩ : Fin 1024) (⟨(i 1).val % 1280, Nat.mod_lt _ (by decide)⟩ : Fin 1280)) = i := by
    rw [plc2_eq]
    funext z
    apply Fin.ext
    change Fin 2 at z
    fin_cases z
    · show (grid0.coords (pt i) 0).val * 1024 + (i 0).val % 1024 = (i 0).val
      rw [coord0]
      show ((i 0).val / 1024) / 1 % 20 * 1024 + (i 0).val % 1024 = (i 0).val
      omega
    · show (grid0.coords (pt i) 1).val * 1280 + (i 1).val % 1280 = (i 1).val
      rw [coord1]
      show ((i 0).val / 1024) / 1 % 1 * 1280 + (i 1).val % 1280 = (i 1).val
      omega
  generalize pt i = t at e ⊢
  exact e.subst (motive := fun z : S20480x1280.Idx => z ∈ (win0_2.blk t).view.set) (View.emb_mem_set _ _)

/-- The array after the run. -/
theorem final : (dats m 0 c).arrAt 2 cfg0.N = result m c := by
  refine (dats m 0 c).arrAt_eq_of_emb 2 (result m c) (fun t hf y => ?_) (fun i => ⟨pt i, flush0_2 _, covered i⟩)
  rw [after_eq]
  exact tile_at m c t y

/-- The reference pads the product instead of the weights: the same array. -/
theorem ref_eq :
    pad Cert.Reference5Ideal.S20480x1280 ![0, 0] ![0, 192] ![0, 0]
        (Host.dotGeneral (F := Ideal) Cert.Reference5Ideal.dot_S20480x2048_S2048x1088_S20480x1088_1_0_0_1_n_n none
          (extf .f32 (Xa m c) Cert.Reference5Ideal.Gen.bitsLt_bf16_f32)
          (extractStridedSlice Cert.Reference5Ideal.S2048x1088 ![0, 3088] (Wa m c) Cert.Reference5Ideal.Gen.slices_S2048x4176_S2048x1088_0_3088))
        (sitofp .f32 (constantI S_ 32 0#32)) Cert.Reference5Ideal.Gen.pads_S20480x1088_S20480x1280_000_01920 Cert.Reference5Ideal.Gen.h_S_
      = result m c := by
  funext i
  obtain ⟨r, j, rfl⟩ : ∃ (r : Fin 20480) (j : Fin 1280), i = ix2 r j :=
    ⟨i 0, i 1, funext fun a => by change Fin 2 at a; fin_cases a <;> rfl⟩
  refine (pad_at _ _ _ _ _ _).trans ?_
  show _ = ∑ k : Fin 2048, Xa m c (ix2 r k) * wpad m c k j
  unfold wpad
  by_cases hj : j.val < 1088
  · simp only [hj, dite_true]
    pointwise
    try rfl
  · rw [dif_neg hj]
    refine zero_word.trans (Finset.sum_eq_zero fun k _ => ?_).symm
    rw [dif_neg hj, mul_zero]

end Cert.Kernel5Ideal.Proj
-- ==== Proof.Proj.Tail.lean ====
/- The lines after the projection's region: they normalise the latent columns of its array and cut the rows of the
   context out of them. What they leave is read off the array as the region leaves it. -/
module

public import proofs.«01_k».proof.Proof.Proj.InB

@[expose] public section

set_option maxRecDepth 16384

noncomputable section

namespace Cert.Kernel5Ideal.Proj

open Cert.Kernel5Ideal Cert.Kernel5Ideal.Gen
open Idealize.ShloMosaic Idealize.ShloMosaic.TcCoe Idealize.SL.Sem
open Idealize.ShloMosaic.Pipeline (Dat)

/-- The latent columns of the projection. -/
abbrev latent (p : FVec Ideal S20480x1280 .f32) : FVec Ideal S20480x512 .f32 :=
  extractStridedSlice S20480x512 ![0, 512] p slices_S20480x1280_S20480x512_0_512

/-- The latent columns, normalised row by row and weighted. -/
abbrev latentN (p : FVec Ideal S20480x1280 .f32) (g : FVec Ideal S512 .f32) : FVec Ideal S20480x512 .f32 :=
  mulf (mulf (latent p) (broadcastInDim S20480x512 ![0, 1] bcast_S20480x1_S20480x512_0_1 (Host.rsqrt (addf (Host.divf
      (broadcastInDim S20480x1 ![0] bcast_S20480_S20480x1_0 (Host.reduceAdd (mulf (latent p) (latent p)) (constant S_ .f32 0x00000000#32) reducesTo_S20480x512_S20480_d1 h_S_))
      (broadcastInDim S20480x1 ![] bcast_S_S20480x1 (constant S_ .f32 0x44000000#32)))
      (broadcastInDim S20480x1 ![] bcast_S_S20480x1 (constant S_ .f32 0x358637BD#32))))))
    (broadcastInDim S20480x512 ![0, 1] bcast_S1x512_S20480x512_0_1 (broadcastInDim S1x512 ![1] bcast_S512_S1x512_1 g))

/-- The context's rows of the normalised latent columns. -/
def ckv (p : FVec Ideal S20480x1280 .f32) (g : FVec Ideal S512 .f32) : FVec Ideal S16x256x512 .f32 :=
  shapeCast S16x256x512 (extractStridedSlice S4096x512 ![0, 0] (latentN p g) slices_S20480x512_S4096x512_0_0) shapeCasts_S4096x512_S16x256x512

/-- The context's rows of the rotary columns. -/
def kpe (p : FVec Ideal S20480x1280 .f32) : FVec Ideal S16x256x64 .f32 :=
  shapeCast S16x256x64 (extractStridedSlice S4096x64 ![0, 0] (extractStridedSlice S20480x64 ![0, 1024] p slices_S20480x1280_S20480x64_0_1024)
    slices_S20480x64_S4096x64_0_0) shapeCasts_S4096x64_S16x256x64

/-- The later lines, run from any contents. -/
theorem after_ckv (W : Valuation τ sig (Elt Ideal)) :
    StableHlo.after hostOps1 W (Proc.devRef .tc main_v20) = ckv (W (Proc.devRef .tc main_v3)) (W (Proc.devRef .tc main_arg2)) := by
  after_results
  rfl

theorem after_kpe (W : Valuation τ sig (Elt Ideal)) :
    StableHlo.after hostOps1 W (Proc.devRef .tc main_v22) = kpe (W (Proc.devRef .tc main_v3)) := by
  after_results
  rfl

variable (m : (ℓ : Loc nD τ sig) → Buf (Elt Ideal) ℓ) (c : Dev nD)

/-- The contents the later lines start from: the region's arrays, and the rest as the region found it. -/
abbrev W0 : Valuation τ sig (Elt Ideal) := Pipeline.withArrays (cfgs 0).spec c (V0 m c) fun w => (dats m 0 c).arrAt w (cfgs 0).N

theorem W0_v3 : W0 m c (Proc.devRef .tc main_v3) = result m c :=
  (Pipeline.withArrays_arr spec0 (by decide) c (V0 m c) (fun w => (dats m 0 c).arrAt w cfg0.N) 2).trans (final m c)

theorem W0_arg2 : W0 m c (Proc.devRef .tc main_arg2) = m ((c : Thread nD τ).loc main_arg2) :=
  (Pipeline.withArrays_of_ne spec0 c (V0 m c) (fun w => (dats m 0 c).arrAt w cfg0.N) main_arg2 (by decide)).trans (V_main_arg2 m c)

theorem tail_ckv : Pipeline.afterTail₀ cfgs (dats m) 0 (V0 m) [hostOps1] c main_v20 = ckv (result m c) (m ((c : Thread nD τ).loc main_arg2)) := by
  unfold Pipeline.afterTail₀
  rw [List.flatten_cons, List.flatten_nil, List.append_nil]
  refine (after_ckv (W0 m c)).trans ?_
  exact congrArg₂ ckv (W0_v3 m c) (W0_arg2 m c)

theorem tail_kpe : Pipeline.afterTail₀ cfgs (dats m) 0 (V0 m) [hostOps1] c main_v22 = kpe (result m c) := by
  unfold Pipeline.afterTail₀
  rw [List.flatten_cons, List.flatten_nil, List.append_nil]
  exact (after_kpe (W0 m c)).trans (congrArg kpe (W0_v3 m c))

/-- The run: the projection, its two cuts, and the arguments as launched. -/
theorem run_tail (g : Dev nD → PrngReg) :
    θ_run (defs (F := Ideal)) (onTc (τ := τ) (main (F := Ideal))) ⟨m, fun _ => 0, g⟩ fun r => ∀ c : Dev nD,
      r.2.mem ((c.tc : Thread nD τ).loc main_v3) = result m c
      ∧ r.2.mem ((c.tc : Thread nD τ).loc main_v20) = ckv (result m c) (m ((c.tc : Thread nD τ).loc main_arg2))
      ∧ r.2.mem ((c.tc : Thread nD τ).loc main_v22) = kpe (result m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 2).trans (final m c),
      ((h c).2 main_v20 (Pipeline.mem_restRefs_of main_v20 (by decide) (by decide))).trans (tail_ckv m c),
      ((h c).2 main_v22 (Pipeline.mem_restRefs_of main_v22 (by decide) (by decide))).trans (tail_kpe m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m g)

/-! ## Their entries -/

/-- A row and a place in it, of the context's two leading axes. -/
abbrev crow (b : Fin 16) (q : Fin 256) : Fin 20480 := ⟨b.val * 256 + q.val, by omega⟩

theorem kpe_at (p : FVec Ideal S20480x1280 .f32) (b : Fin 16) (q : Fin 256) (d : Fin 64) :
    kpe p (ix3 b q d) = p (ix2 (crow b q) ⟨1024 + d.val, by omega⟩) := by
  pointwise [kpe]

/-- One entry of a row, normalised by the row's mean square. -/
def normed (x : Fin 512 → EReal) (g : FVec Ideal S512 .f32) (d : Fin 512) : EReal :=
  x d * Ideal.rsqrt (Ideal.div (∑ k : Fin 512, x k * x k) (Ideal.ofBits .f32 0x44000000#32) + Ideal.ofBits .f32 0x358637BD#32) * g (ix1 d)

theorem ckv_at (p : FVec Ideal S20480x1280 .f32) (g : FVec Ideal S512 .f32) (b : Fin 16) (q : Fin 256) (d : Fin 512) :
    ckv p g (ix3 b q d) = normed (fun k => p (ix2 (crow b q) ⟨512 + k.val, by omega⟩)) g d := by
  pointwise [ckv, normed]
  try rfl

/-! ## The reference's -/

open Cert.Reference5Ideal in
/-- The reference's latent and rotary columns of the context's rows. -/
abbrev refCols : FVec Ideal S16x256x576 .f32 :=
  extractStridedSlice S16x256x576 ![0, 0, 3600] (Host.dotGeneral dot_S16x256x2048_S2048x4176_S16x256x4176_2_0_01_1_n_n none
    (shapeCast _ (extf .f32 (extractStridedSlice S4096x2048 ![0, 0] (Xa m c) Cert.Reference5Ideal.Gen.slices_S20480x2048_S4096x2048_0_0) Cert.Reference5Ideal.Gen.bitsLt_bf16_f32)
      Cert.Reference5Ideal.Gen.shapeCasts_S4096x2048_S16x256x2048) (Wa m c)) Cert.Reference5Ideal.Gen.slices_S16x256x4176_S16x256x576_0_0_3600

open Cert.Reference5Ideal in
/-- Its latent columns. -/
abbrev refLatent : FVec Ideal S16x256x512 .f32 :=
  extractStridedSlice S16x256x512 ![0, 0, 0] (refCols m c) Cert.Reference5Ideal.Gen.slices_S16x256x576_S16x256x512_0_0_0

/-- A column of the reference's cut is a column of the projection. -/
theorem refCols_at (b : Fin 16) (q : Fin 256) (e : Fin 576) :
    refCols m c (ix3 b q e) = result m c (ix2 (crow b q) ⟨512 + e.val, by omega⟩) := by
  have h : ∀ k : Fin 2048, wpad m c k ⟨512 + e.val, by omega⟩ = Wa m c (ix2 k ⟨3600 + e.val, by omega⟩) := fun k => by
    unfold wpad
    have hj : 512 + e.val < 1088 := by omega
    rw [dif_pos hj]
    exact congrArg (fun z => Wa m c (ix2 k z)) (Fin.ext (by show 3088 + (512 + e.val) = 3600 + e.val; omega))
  show _ = ∑ k : Fin 2048, Xa m c (ix2 (crow b q) k) * wpad m c k ⟨512 + e.val, by omega⟩
  rw [Finset.sum_congr rfl fun k _ => congrArg (Xa m c (ix2 (crow b q) k) * ·) (h k)]
  pointwise [refCols]
  try rfl

open Cert.Reference5Ideal in
/-- The reference's normalised latent columns, of any latent columns. -/
def refNorm (x : FVec Ideal S16x256x512 .f32) (g : FVec Ideal S512 .f32) : FVec Ideal S16x256x512 .f32 :=
  mulf (mulf x (broadcastInDim S16x256x512 ![0, 1, 2] Cert.Reference5Ideal.Gen.bcast_S16x256x1_S16x256x512_0_1_2 (Host.rsqrt (addf (Host.divf
      (broadcastInDim S16x256x1 ![0, 1] Cert.Reference5Ideal.Gen.bcast_S16x256_S16x256x1_0_1 (Host.reduceAdd (mulf x x) (constant S_ .f32 0x00000000#32)
        Cert.Reference5Ideal.Gen.reducesTo_S16x256x512_S16x256_d2 Cert.Reference5Ideal.Gen.h_S_))
      (broadcastInDim S16x256x1 ![] Cert.Reference5Ideal.Gen.bcast_S_S16x256x1 (constant S_ .f32 0x44000000#32)))
      (broadcastInDim S16x256x1 ![] Cert.Reference5Ideal.Gen.bcast_S_S16x256x1 (constant S_ .f32 0x358637BD#32))))))
    (broadcastInDim S16x256x512 ![0, 1, 2] Cert.Reference5Ideal.Gen.bcast_S1x1x512_S16x256x512_0_1_2 (broadcastInDim S1x1x512 ![2] Cert.Reference5Ideal.Gen.bcast_S512_S1x1x512_2 g))

theorem refNorm_at (x : FVec Ideal S16x256x512 .f32) (g : FVec Ideal S512 .f32) (b : Fin 16) (q : Fin 256) (d : Fin 512) :
    refNorm x g (ix3 b q d) = normed (fun k => x (ix3 b q k)) g d := by
  pointwise [refNorm, normed]
  try rfl

open Cert.Reference5Ideal in
theorem latent_of (z : FVec Ideal S16x256x576 .f32) (b : Fin 16) (q : Fin 256) (k : Fin 512) :
    extractStridedSlice S16x256x512 ![0, 0, 0] z Cert.Reference5Ideal.Gen.slices_S16x256x576_S16x256x512_0_0_0 (ix3 b q k) = z (ix3 b q ⟨k.val, by omega⟩) := by
  pointwise

/-- The two normalised cuts agree. -/
theorem ckv_eq (g : FVec Ideal S512 .f32) : refNorm (refLatent m c) g = ckv (result m c) g := by
  funext i
  obtain ⟨b, q, d, rfl⟩ : ∃ (b : Fin 16) (q : Fin 256) (d : Fin 512), i = ix3 b q d :=
    ⟨i 0, i 1, i 2, funext fun a => by change Fin 3 at a; fin_cases a <;> rfl⟩
  rw [refNorm_at, ckv_at]
  refine congrArg (normed · g d) (funext fun k => ?_)
  exact (latent_of (refCols m c) b q k).trans (refCols_at m c b q ⟨k.val, by omega⟩)

open Cert.Reference5Ideal in
theorem rotary_of (z : FVec Ideal S16x256x576 .f32) (b : Fin 16) (q : Fin 256) (d : Fin 64) :
    extractStridedSlice S16x256x64 ![0, 0, 512] z Cert.Reference5Ideal.Gen.slices_S16x256x576_S16x256x64_0_0_512 (ix3 b q d) = z (ix3 b q ⟨512 + d.val, by omega⟩) := by
  pointwise

open Cert.Reference5Ideal in
/-- And the two rotary cuts. -/
theorem kpe_eq : extractStridedSlice S16x256x64 ![0, 0, 512] (refCols m c) Cert.Reference5Ideal.Gen.slices_S16x256x576_S16x256x64_0_0_512 = kpe (result m c) := by
  funext i
  obtain ⟨b, q, d, rfl⟩ : ∃ (b : Fin 16) (q : Fin 256) (d : Fin 64), i = ix3 b q d :=
    ⟨i 0, i 1, i 2, funext fun a => by change Fin 3 at a; fin_cases a <;> rfl⟩
  rw [kpe_at]
  have e : (⟨512 + (512 + d.val), by omega⟩ : Fin 1280) = ⟨1024 + d.val, by omega⟩ := Fin.ext (by show 512 + (512 + d.val) = 1024 + d.val; omega)
  refine Eq.trans ?_ ((refCols_at m c b q ⟨512 + d.val, by omega⟩).trans (congrArg (fun z => result m c (ix2 (crow b q) z)) e))
  exact rotary_of (refCols m c) b q d

end Cert.Kernel5Ideal.Proj
-- ==== Proof.Proj.Norm.lean ====
/- The norm and the conditioning before a mixer: the array that the tiled call leaves is the normalised row, scaled and
   shifted by its sequence's conditioning. -/
module

public import proofs.«01_k».proof.Proof.Gen.Kernel7Ideal.Value
public import proofs.«01_k».proof.Proof.Gen.Reference7Ideal.Run
public import Idealize.ShloMosaic.Lib.Pipeline.ValueKit

@[expose] public section

set_option maxRecDepth 16384

noncomputable section

namespace Cert.Kernel7Ideal.Norm

open Cert.Kernel7Ideal Cert.Kernel7Ideal.Gen
open Idealize.ShloMosaic Idealize.ShloMosaic.TcCoe
open Idealize.ShloMosaic.Pipeline (Dat)

variable (m : (ℓ : Loc nD τ sig) → Buf (Elt Ideal) ℓ) (c : Dev nD)

/-- The arguments at the types they are read at. -/
abbrev Xa : FVec Ideal S20480x2048 .f32 := m ((c : Thread nD τ).loc main_arg0)
abbrev Ga : FVec Ideal S2048 .f32 := m ((c : Thread nD τ).loc main_arg1)
abbrev Ma : FVec Ideal S5x6x2048 .f32 := m ((c : Thread nD τ).loc main_arg2)

/-- The sequence a row belongs to: every sequence has 4096 rows. -/
abbrev seqOf (r : Fin 20480) : Fin 5 := ⟨r.val / 4096, by omega⟩

/-- One entry: of a row `x`, its gain, its scale and its shift. -/
def entry (x : Fin 2048 → EReal) (g sc sh : EReal) (j : Fin 2048) : EReal :=
  x j * Ideal.rsqrt (Ideal.div (∑ k : Fin 2048, x k * x k) (Ideal.ofBits .f32 0x45000000#32) + Ideal.ofBits .f32 0x358637BD#32) * g
    * (Ideal.ofBits .f32 0x3F800000#32 + sc) + sh

/-- What the kernel leaves. -/
def result : FVec Ideal S20480x2048 .bf16 := fun i =>
  entry (fun k => Xa m c (ix2 (i 0) k)) (Ga m c (ix1 (i 1))) (Ma m c (ix3 (seqOf (i 0)) (1 : Fin 6) (i 1))) (Ma m c (ix3 (seqOf (i 0)) (0 : Fin 6) (i 1))) (i 1)

/-- The gain, as the kernel is handed it. -/
theorem V_g (i : S1x2048.Idx) : (show FVec Ideal S1x2048 .f32 from V m c main_v0) i = Ga m c (ix1 (i 1)) := by
  entry_read
  pointwise
  try rfl

/-- One tile of the call. -/
theorem pay_at (x : FVec Ideal S512x2048 .f32) (g : FVec Ideal S1x2048 .f32) (sh sc : FVec Ideal S1x1x2048 .f32) (j : S512x2048.Idx) :
    k0_pay1 (F := Ideal) x g sh sc j = entry (fun k => x (ix2 (j 0) k)) (g (ix2 (0 : Fin 1) (j 1))) (sc (ix3 (0 : Fin 1) (0 : Fin 1) (j 1)))
      (sh (ix3 (0 : Fin 1) (0 : Fin 1) (j 1))) (j 1) := by
  pointwise [k0_pay1, entry]
  try rfl

/-! ## Where a tile sits -/

theorem coord0 (t : Fin grid0.N) : (grid0.coords t 0).val = t.val / 1 % 40 := Pipeline.Grid.coords_val t 0 (by decide) rfl

/-- The row of the array that a tile's row is. -/
abbrev row (t : Fin grid0.N) (r : Fin 512) : Fin 20480 := ⟨(grid0.coords t 0).val * 512 + r.val, by have h : (grid0.coords t 0).val < 40 := (grid0.coords t 0).isLt; omega⟩

def plc0 (t : Fin grid0.N) (x : S512x2048.Idx) : S20480x2048.Idx := (win0_0.blk t).view.emb x
theorem plc0_eq (t : Fin grid0.N) (x : S512x2048.Idx) : plc0 t x = ix2 (row t (x 0)) (x 1) := by
  funext z
  apply Fin.ext
  refine (Pipeline.Window.rect_emb_val win0_0 t x z rfl).trans ?_
  have h : (grid0.coords t 0).val < 40 := (grid0.coords t 0).isLt
  change Fin 2 at z
  fin_cases z
  · show (BitVec.ofNat 32 (grid0.coords t 0).val).toNat * 512 + (x 0).val = (grid0.coords t 0).val * 512 + (x 0).val
    rw [BitVec.toNat_ofNat]; omega
  · show 0 * 2048 + (x 1).val = (x 1).val; omega

def plc1 (t : Fin grid0.N) (x : S1x2048.Idx) : S1x2048.Idx := (win0_1.blk t).view.emb x
theorem plc1_eq (t : Fin grid0.N) (x : S1x2048.Idx) : plc1 t x = ix2 (x 0) (x 1) := by
  funext z
  apply Fin.ext
  refine (Pipeline.Window.rect_emb_val win0_1 t x z rfl).trans ?_
  change Fin 2 at z
  fin_cases z
  · show 0 * 1 + (x 0).val = (x 0).val; omega
  · show 0 * 2048 + (x 1).val = (x 1).val; omega

/-- Eight tiles of rows to a sequence: the conditioning's block is the row tile's eighth. -/
theorem index2 : ∀ t : Fin grid0.N, win0_2.index t 0 = (grid0.coords t 0).val / 8 ∧ win0_2.index t 1 = 0 ∧ win0_2.index t 2 = 0 := by
  decide +kernel

abbrev sq (t : Fin grid0.N) : Fin 5 := ⟨(grid0.coords t 0).val / 8, by have h : (grid0.coords t 0).val < 40 := (grid0.coords t 0).isLt; omega⟩
def plc2 (t : Fin grid0.N) (x : S1x6x2048.Idx) : S5x6x2048.Idx := (win0_2.blk t).view.emb x
theorem plc2_eq (t : Fin grid0.N) (x : S1x6x2048.Idx) : plc2 t x = ix3 (sq t) (x 1) (x 2) := by
  funext z
  apply Fin.ext
  refine (Pipeline.Window.rect_emb_val win0_2 t x z rfl).trans ?_
  obtain ⟨h0, h1, h2⟩ := index2 t
  have hx : (x 0).val < 1 := (x 0).isLt
  change Fin 3 at z
  fin_cases z
  · refine (congrArg (· * 1 + (x 0).val) h0).trans ?_
    show (grid0.coords t 0).val / 8 * 1 + (x 0).val = (grid0.coords t 0).val / 8; omega
  · refine (congrArg (· * 6 + (x 1).val) h1).trans ?_
    show 0 * 6 + (x 1).val = (x 1).val; omega
  · refine (congrArg (· * 2048 + (x 2).val) h2).trans ?_
    show 0 * 2048 + (x 2).val = (x 2).val; omega

def plc3 (t : Fin grid0.N) (x : S512x2048.Idx) : S20480x2048.Idx := (win0_3.blk t).view.emb x
theorem plc3_eq (t : Fin grid0.N) (x : S512x2048.Idx) : plc3 t x = ix2 (row t (x 0)) (x 1) := plc0_eq t x

/-! ## The blocks at a point -/

abbrev blk0 (t : Fin grid0.N) : FVec Ideal S512x2048 .f32 := iblk m c 0 t
abbrev blk1 (t : Fin grid0.N) : FVec Ideal S1x2048 .f32 := iblk m c 1 t
abbrev blk2 (t : Fin grid0.N) : FVec Ideal S1x6x2048 .f32 := iblk m c 2 t

theorem blk0_at (t : Fin grid0.N) (x : S512x2048.Idx) : blk0 m c t x = Xa m c (ix2 (row t (x 0)) (x 1)) :=
  (congrArg (V m c main_arg0) (plc0_eq t x)).trans (congrFun (V_main_arg0 m c) _)
theorem blk1_at (t : Fin grid0.N) (x : S1x2048.Idx) : blk1 m c t x = Ga m c (ix1 (x 1)) :=
  (congrArg (V m c main_v0) (plc1_eq t x)).trans (V_g m c _)
theorem blk2_at (t : Fin grid0.N) (x : S1x6x2048.Idx) : blk2 m c t x = Ma m c (ix3 (sq t) (x 1) (x 2)) :=
  (congrArg (V m c main_arg2) (plc2_eq t x)).trans (congrFun (V_main_arg2 m c) _)

/-- A row of a tile's conditioning. -/
def cond (t : Fin grid0.N) (w : Fin 6) : FVec Ideal S1x1x2048 .f32 := fun y => blk2 m c t (ix3 (0 : Fin 1) w (y 2))

/-- What a point leaves in its tile's buffer. -/
theorem after_eq (t : Fin cfg0.N) : (dats m 0 c).after 3 t = k0_pay1 (F := Ideal) (blk0 m c t) (blk1 m c t) (cond m c t 0) (cond m c t 1) := by
  rw [after0_3]
  frame_out
  refine congrArg₂ (k0_pay1 (F := Ideal) (blk0 m c t) (blk1 m c t)) (funext fun y => ?_) (funext fun y => ?_)
  all_goals
    refine congrArg (blk2 m c t) (funext fun z => Fin.ext ?_)
    have h0 : (y 0).val < 1 := (y 0).isLt
    have h1 : (y 1).val < 1 := (y 1).isLt
    change Fin 3 at z
  · fin_cases z
    · show 0 + 1 * (y 0).val = 0; omega
    · show 0 + 1 * (y 1).val = 0; omega
    · show 0 + 1 * (y 2).val = (y 2).val; omega
  · fin_cases z
    · show 0 + 1 * (y 0).val = 0; omega
    · show 1 + 1 * (y 1).val = 1; omega
    · show 0 + 1 * (y 2).val = (y 2).val; omega

/-- A row's sequence is its tile's. -/
theorem sq_eq (t : Fin grid0.N) (r : Fin 512) : sq t = seqOf (row t r) := Fin.ext (by
  show (grid0.coords t 0).val / 8 = ((grid0.coords t 0).val * 512 + r.val) / 4096
  omega)

theorem cond_at (t : Fin grid0.N) (w : Fin 6) (r : Fin 512) (j : Fin 2048) :
    cond m c t w (ix3 (0 : Fin 1) (0 : Fin 1) j) = Ma m c (ix3 (seqOf (row t r)) w j) := by
  rw [← sq_eq t r]
  exact blk2_at m c t _

/-- So the tile holds its part of the result. -/
theorem tile_at (t : Fin grid0.N) (j : S512x2048.Idx) :
    k0_pay1 (F := Ideal) (blk0 m c t) (blk1 m c t) (cond m c t 0) (cond m c t 1) j = result m c (plc3 t j) := by
  rw [plc3_eq]
  refine (pay_at (blk0 m c t) (blk1 m c t) (cond m c t 0) (cond m c t 1) j).trans ?_
  have hx : (fun k => blk0 m c t (ix2 (j 0) k)) = fun k => Xa m c (ix2 (row t (j 0)) k) := funext fun k => blk0_at m c t _
  rw [hx, cond_at m c t 0 (j 0) (j 1), cond_at m c t 1 (j 0) (j 1)]
  exact congrArg (fun g => entry _ g _ _ _) (blk1_at m c t _)

/-- The tile of a row. -/
def pt (i : S20480x2048.Idx) : Fin grid0.N :=
  ⟨(i 0).val / 512, by
    have h0 : (i 0).val < 20480 := (i 0).isLt
    rw [show grid0.N = 40 from N_0]; omega⟩

theorem covered (i : S20480x2048.Idx) : i ∈ (win0_3.blk (pt i)).view.set := by
  have h0 : (i 0).val < 20480 := (i 0).isLt
  have e : plc3 (pt i) (ix2 (⟨(i 0).val % 512, Nat.mod_lt _ (by decide)⟩ : Fin 512) (i 1)) = i := by
    rw [plc3_eq]
    funext z
    apply Fin.ext
    change Fin 2 at z
    fin_cases z
    · show (grid0.coords (pt i) 0).val * 512 + (i 0).val % 512 = (i 0).val
      rw [coord0]
      show ((i 0).val / 512) / 1 % 40 * 512 + (i 0).val % 512 = (i 0).val
      omega
    · rfl
  generalize pt i = t at e ⊢
  exact e.subst (motive := fun z : S20480x2048.Idx => z ∈ (win0_3.blk t).view.set) (View.emb_mem_set _ _)

/-- The array after the run. -/
theorem final : (dats m 0 c).arrAt 3 cfg0.N = result m c := by
  refine (dats m 0 c).arrAt_eq_of_emb 3 (result m c) (fun t hf y => ?_) (fun i => ⟨pt i, flush0_3 _, covered i⟩)
  rw [after_eq]
  exact tile_at m c t y

/-- The reference's array, one operation after another. -/
def refArr (x : FVec Ideal S20480x2048 .f32) (g : FVec Ideal S2048 .f32) (md : FVec Ideal S5x6x2048 .f32) : FVec Ideal S20480x2048 .bf16 :=
  truncf .bf16 (shapeCast _
    (addf (mulf (shapeCast _ (mulf (mulf x
      (broadcastInDim Cert.Reference7Ideal.S20480x2048 ![0, 1] Cert.Reference7Ideal.Gen.bcast_S20480x1_S20480x2048_0_1
      (Host.rsqrt (addf (Host.divf
      (broadcastInDim Cert.Reference7Ideal.S20480x1 ![0] Cert.Reference7Ideal.Gen.bcast_S20480_S20480x1_0 (Host.reduceAdd (mulf x x) (constant Cert.Reference7Ideal.S_ .f32 0x00000000#32) Cert.Reference7Ideal.Gen.reducesTo_S20480x2048_S20480_d1 Cert.Reference7Ideal.Gen.h_S_))
      (broadcastInDim Cert.Reference7Ideal.S20480x1 ![] Cert.Reference7Ideal.Gen.bcast_S_S20480x1 (constant Cert.Reference7Ideal.S_ .f32 0x45000000#32)))
      (broadcastInDim Cert.Reference7Ideal.S20480x1 ![] Cert.Reference7Ideal.Gen.bcast_S_S20480x1 (constant Cert.Reference7Ideal.S_ .f32 0x358637BD#32))))))
      (broadcastInDim Cert.Reference7Ideal.S20480x2048 ![0, 1] Cert.Reference7Ideal.Gen.bcast_S1x2048_S20480x2048_0_1
      (broadcastInDim Cert.Reference7Ideal.S1x2048 ![1] Cert.Reference7Ideal.Gen.bcast_S2048_S1x2048_1 g))) Cert.Reference7Ideal.Gen.shapeCasts_S20480x2048_S5x4096x2048)
      (broadcastInDim Cert.Reference7Ideal.S5x4096x2048 ![0, 1, 2] Cert.Reference7Ideal.Gen.bcast_S5x1x2048_S5x4096x2048_0_1_2 (addf
      (broadcastInDim Cert.Reference7Ideal.S5x1x2048 ![] Cert.Reference7Ideal.Gen.bcast_S_S5x1x2048 (constant Cert.Reference7Ideal.S_ .f32 0x3F800000#32))
      (broadcastInDim Cert.Reference7Ideal.S5x1x2048 ![0, 2] Cert.Reference7Ideal.Gen.bcast_S5x2048_S5x1x2048_0_2 (shapeCast _ (extractStridedSlice Cert.Reference7Ideal.S5x1x2048 ![0, 1, 0] md Cert.Reference7Ideal.Gen.slices_S5x6x2048_S5x1x2048_0_1_0) Cert.Reference7Ideal.Gen.shapeCasts_S5x1x2048_S5x2048)))))
      (broadcastInDim Cert.Reference7Ideal.S5x4096x2048 ![0, 1, 2] Cert.Reference7Ideal.Gen.bcast_S5x1x2048_S5x4096x2048_0_1_2
      (broadcastInDim Cert.Reference7Ideal.S5x1x2048 ![0, 2] Cert.Reference7Ideal.Gen.bcast_S5x2048_S5x1x2048_0_2 (shapeCast _ (extractStridedSlice Cert.Reference7Ideal.S5x1x2048 ![0, 0, 0] md Cert.Reference7Ideal.Gen.slices_S5x6x2048_S5x1x2048_0_0_0) Cert.Reference7Ideal.Gen.shapeCasts_S5x1x2048_S5x2048)))) Cert.Reference7Ideal.Gen.shapeCasts_S5x4096x2048_S20480x2048) Cert.Reference7Ideal.Gen.bitsLt_bf16_f32

theorem ref_eq : refArr (Xa m c) (Ga m c) (Ma m c) = result m c := by
  funext i
  unfold result
  pointwise [refArr, entry]
  try rfl

end Cert.Kernel7Ideal.Norm
-- ==== Proof.Proj.Kv.lean ====
/- The expansion of the compressed keys and values in the latent attention: the array that the tiled product leaves is the
   whole product. -/
module

public import proofs.«01_k».proof.Proof.Gen.Kernel8Ideal.Value
public import proofs.«01_k».proof.Proof.Gen.Reference8Ideal.Run
public import Idealize.ShloMosaic.Lib.Pipeline.ValueKit

@[expose] public section

set_option maxRecDepth 16384

noncomputable section

namespace Cert.Kernel8Ideal.Proj

open Cert.Kernel8Ideal Cert.Kernel8Ideal.Gen
open Idealize.ShloMosaic Idealize.ShloMosaic.TcCoe
open Idealize.ShloMosaic.Pipeline (Dat)

variable (m : (ℓ : Loc nD τ sig) → Buf (Elt Ideal) ℓ) (c : Dev nD)

/-- The arguments at the types they are read at. -/
abbrev Xa : FVec Ideal S22528x512 .f32 := m ((c : Thread nD τ).loc main_arg0)
abbrev Wa : FVec Ideal S512x2048 .f32 := m ((c : Thread nD τ).loc main_arg1)

/-- What the kernel leaves: the product of the rows with the weights. -/
def result : FVec Ideal S22528x2048 .f32 := fun i => ∑ k : Fin 512, Xa m c (ix2 (i 0) k) * Wa m c (ix2 k (i 1))

/-- The weights' columns, as the kernel is handed them. -/
theorem V_w (i : S512x2048.Idx) : (show FVec Ideal S512x2048 .bf16 from V m c main_v0) i = Wa m c (ix2 (i 0) (i 1)) := by
  entry_read
  pointwise
  try rfl

/-- One tile of the product. -/
theorem pay_at (x : FVec Ideal S1024x512 .f32) (w : FVec Ideal S512x1024 .bf16) (j : S1024x1024.Idx) :
    k0_pay1 (F := Ideal) x w j = ∑ k : Fin 512, x (ix2 (j 0) k) * w (ix2 k (j 1)) := by
  pointwise [k0_pay1]

/-! ## Where a tile sits -/

theorem coord0 (t : Fin grid0.N) : (grid0.coords t 0).val = t.val / 2 % 22 := Pipeline.Grid.coords_val t 0 (by decide) rfl
theorem coord1 (t : Fin grid0.N) : (grid0.coords t 1).val = t.val / 1 % 2 := Pipeline.Grid.coords_val t 1 (by decide) rfl

/-- The row and the column of the array that a tile's row and column are. -/
abbrev row (t : Fin grid0.N) (r : Fin 1024) : Fin 22528 := ⟨(grid0.coords t 0).val * 1024 + r.val, by have h : (grid0.coords t 0).val < 22 := (grid0.coords t 0).isLt; omega⟩
abbrev col (t : Fin grid0.N) (j : Fin 1024) : Fin 2048 := ⟨(grid0.coords t 1).val * 1024 + j.val, by have h : (grid0.coords t 1).val < 2 := (grid0.coords t 1).isLt; omega⟩

def plc0 (t : Fin grid0.N) (x : S1024x512.Idx) : S22528x512.Idx := (win0_0.blk t).view.emb x
theorem plc0_eq (t : Fin grid0.N) (x : S1024x512.Idx) : plc0 t x = ix2 (row t (x 0)) (x 1) := by
  funext z
  apply Fin.ext
  refine (Pipeline.Window.rect_emb_val win0_0 t x z rfl).trans ?_
  have h : (grid0.coords t 0).val < 22 := (grid0.coords t 0).isLt
  change Fin 2 at z
  fin_cases z
  · show (BitVec.ofNat 32 (grid0.coords t 0).val).toNat * 1024 + (x 0).val = (grid0.coords t 0).val * 1024 + (x 0).val
    rw [BitVec.toNat_ofNat]; omega
  · show 0 * 512 + (x 1).val = (x 1).val; omega

def plc1 (t : Fin grid0.N) (x : S512x1024.Idx) : S512x2048.Idx := (win0_1.blk t).view.emb x
theorem plc1_eq (t : Fin grid0.N) (x : S512x1024.Idx) : plc1 t x = ix2 (x 0) (col t (x 1)) := by
  funext z
  apply Fin.ext
  refine (Pipeline.Window.rect_emb_val win0_1 t x z rfl).trans ?_
  have h : (grid0.coords t 1).val < 2 := (grid0.coords t 1).isLt
  change Fin 2 at z
  fin_cases z
  · show 0 * 512 + (x 0).val = (x 0).val; omega
  · show (BitVec.ofNat 32 (grid0.coords t 1).val).toNat * 1024 + (x 1).val = (grid0.coords t 1).val * 1024 + (x 1).val
    rw [BitVec.toNat_ofNat]; omega

def plc2 (t : Fin grid0.N) (x : S1024x1024.Idx) : S22528x2048.Idx := (win0_2.blk t).view.emb x
theorem plc2_eq (t : Fin grid0.N) (x : S1024x1024.Idx) : plc2 t x = ix2 (row t (x 0)) (col t (x 1)) := by
  funext z
  apply Fin.ext
  refine (Pipeline.Window.rect_emb_val win0_2 t x z rfl).trans ?_
  have h : (grid0.coords t 0).val < 22 := (grid0.coords t 0).isLt
  have h' : (grid0.coords t 1).val < 2 := (grid0.coords t 1).isLt
  change Fin 2 at z
  fin_cases z
  · show (BitVec.ofNat 32 (grid0.coords t 0).val).toNat * 1024 + (x 0).val = (grid0.coords t 0).val * 1024 + (x 0).val
    rw [BitVec.toNat_ofNat]; omega
  · show (BitVec.ofNat 32 (grid0.coords t 1).val).toNat * 1024 + (x 1).val = (grid0.coords t 1).val * 1024 + (x 1).val
    rw [BitVec.toNat_ofNat]; omega

/-! ## The blocks at a point -/

abbrev blk0 (t : Fin grid0.N) : FVec Ideal S1024x512 .f32 := iblk m c 0 t
abbrev blk1 (t : Fin grid0.N) : FVec Ideal S512x1024 .bf16 := iblk m c 1 t

theorem blk0_at (t : Fin grid0.N) (x : S1024x512.Idx) : blk0 m c t x = Xa m c (ix2 (row t (x 0)) (x 1)) :=
  (congrArg (V m c main_arg0) (plc0_eq t x)).trans (congrFun (V_main_arg0 m c) _)
theorem blk1_at (t : Fin grid0.N) (x : S512x1024.Idx) : blk1 m c t x = Wa m c (ix2 (x 0) (col t (x 1))) :=
  (congrArg (V m c main_v0) (plc1_eq t x)).trans (V_w m c _)

/-- What a point leaves in its tile's buffer. -/
theorem after_eq (t : Fin cfg0.N) : (dats m 0 c).after 2 t = k0_pay1 (F := Ideal) (blk0 m c t) (blk1 m c t) := by
  rw [after0_2]
  frame_out

/-- So the tile holds its part of the product. -/
theorem tile_at (t : Fin grid0.N) (j : S1024x1024.Idx) :
    k0_pay1 (F := Ideal) (blk0 m c t) (blk1 m c t) j = result m c (plc2 t j) := by
  rw [plc2_eq]
  refine (pay_at (blk0 m c t) (blk1 m c t) j).trans ?_
  unfold result
  exact Finset.sum_congr rfl fun k _ => congrArg₂ (· * ·) (blk0_at m c t _) (blk1_at m c t _)

/-- The tile of a row and a column. -/
def pt (i : S22528x2048.Idx) : Fin grid0.N :=
  ⟨2 * ((i 0).val / 1024) + (i 1).val / 1024, by
    have h0 : (i 0).val < 22528 := (i 0).isLt
    have h1 : (i 1).val < 2048 := (i 1).isLt
    rw [show grid0.N = 44 from N_0]; omega⟩

theorem covered (i : S22528x2048.Idx) : i ∈ (win0_2.blk (pt i)).view.set := by
  have h0 : (i 0).val < 22528 := (i 0).isLt
  have h1 : (i 1).val < 2048 := (i 1).isLt
  have e : plc2 (pt i) (ix2 (⟨(i 0).val % 1024, Nat.mod_lt _ (by decide)⟩ : Fin 1024) (⟨(i 1).val % 1024, Nat.mod_lt _ (by decide)⟩ : Fin 1024)) = i := by
    rw [plc2_eq]
    funext z
    apply Fin.ext
    change Fin 2 at z
    fin_cases z
    · show (grid0.coords (pt i) 0).val * 1024 + (i 0).val % 1024 = (i 0).val
      rw [coord0]
      show (2 * ((i 0).val / 1024) + (i 1).val / 1024) / 2 % 22 * 1024 + (i 0).val % 1024 = (i 0).val
      omega
    · show (grid0.coords (pt i) 1).val * 1024 + (i 1).val % 1024 = (i 1).val
      rw [coord1]
      show (2 * ((i 0).val / 1024) + (i 1).val / 1024) / 1 % 2 * 1024 + (i 1).val % 1024 = (i 1).val
      omega
  generalize pt i = t at e ⊢
  exact e.subst (motive := fun z : S22528x2048.Idx => z ∈ (win0_2.blk t).view.set) (View.emb_mem_set _ _)

/-- The array after the run. -/
theorem final : (dats m 0 c).arrAt 2 cfg0.N = result m c := by
  refine (dats m 0 c).arrAt_eq_of_emb 2 (result m c) (fun t hf y => ?_) (fun i => ⟨pt i, flush0_2 _, covered i⟩)
  rw [after_eq]
  exact tile_at m c t y

/-- The reference's product of the rows with the weights is the same array. -/
theorem ref_eq :
    Host.dotGeneral (F := Ideal) Cert.Reference8Ideal.dot_S22528x512_S512x2048_S22528x2048_1_0_0_1_n_n none (Xa m c) (Wa m c) = result m c := by
  funext i
  unfold result
  pointwise
  try rfl

end Cert.Kernel8Ideal.Proj
-- ==== Proof.Attn.Step.lean ====
/- The latent attention's grid points: what each leaves in the three registers of its rows — the running maximum, the
   running sum and the weighted values — over what the point before left, and the block it writes at its last point. -/
module

public import proofs.«01_k».proof.Proof.Gen.Kernel6Ideal.Value
public import Idealize.ShloMosaic.Lib.Pipeline.ValueKit
public import Idealize.ShloMosaic.Lib.Pipeline.ReadBack

@[expose] public section

set_option maxRecDepth 16384

noncomputable section

namespace Cert.Kernel6Ideal.Attn

open Cert.Kernel6Ideal Cert.Kernel6Ideal.Gen
open Idealize.ShloMosaic Idealize.ShloMosaic.TcCoe
open Idealize.ShloMosaic.Pipeline (Dat)

variable (m : (ℓ : Loc nD τ sig) → Buf (Elt Ideal) ℓ) (c : Dev nD)

/-- The blocks of the queries, the keys and the values at a point. -/
abbrev blkQ (t : Fin grid0.N) : FVec Ideal S1x512x256 .bf16 := iblk m c 0 t
abbrev blkK (t : Fin grid0.N) : FVec Ideal S1x512x256 .bf16 := iblk m c 1 t
abbrev blkV (t : Fin grid0.N) : FVec Ideal S1x512x128 .bf16 := iblk m c 2 t

/-- The three registers. -/
structure Regs where
  mx : FVec Ideal S512x1 .f32
  sm : FVec Ideal S512x1 .f32
  ac : FVec Ideal S512x128 .f32

/-- The registers before a row's first block of keys. -/
def Regs.fresh : Regs := ⟨k0_pay4, k0_pay5, k0_pay6⟩

/-- One block of keys and values taken in. -/
def Regs.next (q k : FVec Ideal S1x512x256 .bf16) (v : FVec Ideal S1x512x128 .bf16) (r : Regs) : Regs :=
  ⟨k0_pay2 (k0_pay9 q k r.mx), k0_pay12 q k r.mx r.sm, k0_pay1 (k0_pay7 v) (k0_pay11 q k r.mx) r.ac (k0_pay13 q k r.mx)⟩

/-- What point `n` leaves in the registers. -/
def regs (n : ℕ) (h : n < cfg0.N) : Regs := ⟨(outsAt0 m c n h).2.1, (outsAt0 m c n h).2.2.1, (outsAt0 m c n h).2.2.2⟩

/-- A row's first point starts afresh. -/
theorem regs_first (t : Fin cfg0.N) (h0 : t.val % 9 = 0) :
    regs m c t.val t.isLt = Regs.fresh.next (blkQ m c t) (blkK m c t) (blkV m c t) := by
  have h1 : ¬t.val % 9 = 8 := by omega
  have e0 : (outsAt0 m c t.val t.isLt).2.1 = k0_pay2 (F := Ideal) (k0_pay9 (blkQ m c t) (blkK m c t) (k0_pay4 (F := Ideal))) := by
    rw [outsAt0_A m c t h0 h1]; frame_out
  have e1 : (outsAt0 m c t.val t.isLt).2.2.1 = k0_pay12 (F := Ideal) (blkQ m c t) (blkK m c t) (k0_pay4 (F := Ideal)) (k0_pay5 (F := Ideal)) := by
    rw [outsAt0_A m c t h0 h1]; frame_out
  have e2 : (outsAt0 m c t.val t.isLt).2.2.2 = k0_pay1 (F := Ideal) (k0_pay7 (blkV m c t)) (k0_pay11 (blkQ m c t) (blkK m c t) (k0_pay4 (F := Ideal))) (k0_pay6 (F := Ideal)) (k0_pay13 (blkQ m c t) (blkK m c t) (k0_pay4 (F := Ideal))) := by
    rw [outsAt0_A m c t h0 h1]; frame_out
  unfold regs Regs.next Regs.fresh
  rw [e0, e1, e2]

/-- A later point takes its block in. -/
theorem regs_next (t : Fin cfg0.N) (h0 : ¬t.val % 9 = 0) :
    regs m c t.val t.isLt = (regs m c (t.val - 1) (Nat.lt_of_le_of_lt (Nat.sub_le _ _) t.isLt)).next (blkQ m c t) (blkK m c t) (blkV m c t) := by
  unfold regs Regs.next
  by_cases h1 : t.val % 9 = 8
  · congr 1
    · rw [outsAt0_C m c t h0 h1]; (frame_out; simp only [read_unread_whole])
    · rw [outsAt0_C m c t h0 h1]; (frame_out; simp only [read_unread_whole])
    · rw [outsAt0_C m c t h0 h1]; (frame_out; simp only [read_unread_whole])
  · congr 1
    · rw [outsAt0_B m c t h0 h1]; (frame_out; simp only [read_unread_whole])
    · rw [outsAt0_B m c t h0 h1]; (frame_out; simp only [read_unread_whole])
    · rw [outsAt0_B m c t h0 h1]; (frame_out; simp only [read_unread_whole])

/-- A row's last point writes the quotient of its registers. -/
theorem after_eq (t : Fin cfg0.N) (h1 : t.val % 9 = 8) :
    (dats m 0 c).after 3 t = k0_pay3 (F := Ideal) (regs m c t.val t.isLt).ac (regs m c t.val t.isLt).sm := by
  have h0 : ¬t.val % 9 = 0 := by omega
  rw [regs_next m c t h0, after0_3, outsAt0_C m c t h0 h1]
  unfold regs Regs.next
  (frame_out; simp only [read_unread_whole])

end Cert.Kernel6Ideal.Attn
-- ==== Proof.Attn.Online.lean ====
/- The running softmax: weights that are exponentials of logits, kept up to a common real shift while the keys arrive block
   by block, and at the end divided by their sum. The shift a step uses does not matter to the quotient, only that it is a
   real number; so the result is the softmax over all the keys at any other real shift. -/
module

public import Idealize.ShloMosaic.PureOps.Ideal
public import Idealize.ShloMosaic.PureOps.Contract

@[expose] public section

noncomputable section

namespace Cert.Attn

open Idealize.ShloMosaic

/-! ## Sums of extended reals -/

/-- A nonnegative real factor goes into a sum. -/
theorem coe_mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (EReal.coe_nonneg.2 hc) (EReal.coe_ne_top c) _ _

/-- A sum of reals is real. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The greatest of a start that is not +∞ and of reals, at least one of them, is real. -/
theorem max_fold_real {ι : Type} (s : Finset ι) (hs : s.Nonempty) (f : ι → ℝ) (b : EReal) (hb : b ≠ ⊤) :
    ∃ M : ℝ, s.fold max b (fun i => (f i : EReal)) = M := by
  have ht : s.fold max b (fun i => (f i : EReal)) ≠ ⊤ :=
    ne_of_lt ((Finset.fold_max_lt _).2 ⟨lt_top_iff_ne_top.2 hb, fun i _ => EReal.coe_lt_top _⟩)
  have hbot : s.fold max b (fun i => (f i : EReal)) ≠ ⊥ := by
    obtain ⟨i, hi⟩ := hs
    exact ne_of_gt (lt_of_lt_of_le (EReal.bot_lt_coe (f i)) ((Finset.le_fold_max _).2 (.inr ⟨i, hi, le_rfl⟩)))
  exact ⟨_, (EReal.coe_toReal ht hbot).symm⟩

/-! ## The state after the first `n` keys -/

/-- The weights of the first `n` keys at a shift, and the values summed by them. -/
def den (s : ℕ → ℝ) (M : ℝ) (n : ℕ) : ℝ := ∑ k ∈ Finset.range n, Real.exp (s k - M)
def num (s : ℕ → ℝ) (v : ℕ → EReal) (M : ℝ) (n : ℕ) : EReal := ∑ k ∈ Finset.range n, (Real.exp (s k - M) : EReal) * v k

/-- What the three registers of a row hold after `n` keys: a shift, the sum of the weights, and the weighted values. -/
def Inv (s : ℕ → ℝ) (v : ℕ → EReal) (n : ℕ) (m l a : EReal) : Prop :=
  ∃ M : ℝ, m = M ∧ l = (den s M n : ℝ) ∧ a = num s v M n

/-- The state before any key: the shift −∞, nothing summed. -/
def Start (m l a : EReal) : Prop := m = ⊥ ∧ l = 0 ∧ a = 0

theorem den_shift (s : ℕ → ℝ) (M M' : ℝ) (n : ℕ) : Real.exp (M - M') * den s M n = den s M' n := by
  unfold den
  rw [Finset.mul_sum]
  refine Finset.sum_congr rfl fun k _ => ?_
  rw [← Real.exp_add]; congr 1; ring

theorem num_shift (s : ℕ → ℝ) (v : ℕ → EReal) (M M' : ℝ) (n : ℕ) :
    (Real.exp (M - M') : EReal) * num s v M n = num s v M' n := by
  unfold num
  rw [coe_mul_sum _ _ (Real.exp_pos _).le]
  refine Finset.sum_congr rfl fun k _ => ?_
  rw [← mul_assoc, ← EReal.coe_mul, ← Real.exp_add]; congr 3; ring

theorem den_add (s : ℕ → ℝ) (M : ℝ) (n w : ℕ) : den s M (n + w) = den s M n + ∑ i : Fin w, Real.exp (s (n + i.val) - M) := by
  unfold den
  rw [Finset.sum_range_add, Finset.sum_range (fun x => Real.exp (s (n + x) - M))]

theorem num_add (s : ℕ → ℝ) (v : ℕ → EReal) (M : ℝ) (n w : ℕ) :
    num s v M (n + w) = num s v M n + ∑ i : Fin w, (Real.exp (s (n + i.val) - M) : EReal) * v (n + i.val) := by
  unfold num
  rw [Finset.sum_range_add, Finset.sum_range (fun x => (Real.exp (s (n + x) - M) : EReal) * v (n + x))]

/-- The exponentials of a block's logits under a real shift. -/
theorem exp_logit (x M : ℝ) : Ideal.exp ((x : EReal) - (M : EReal)) = (Real.exp (x - M) : EReal) := by
  rw [← EReal.coe_sub, Ideal.exp_coe]

/-- One block of `w` keys: the registers rescaled to the new shift, the block's part added. -/
theorem step (s : ℕ → ℝ) (v : ℕ → EReal) (n w : ℕ) (m l a m' : EReal) (hn : Inv s v n m l a ∨ (n = 0 ∧ Start m l a)) (M' : ℝ) (hm' : m' = M') :
    Inv s v (n + w) m' (Ideal.exp (m - m') * l + ∑ i : Fin w, Ideal.exp ((s (n + i.val) : EReal) - m'))
      (Ideal.exp (m - m') * a + ∑ i : Fin w, Ideal.exp ((s (n + i.val) : EReal) - m') * v (n + i.val)) := by
  subst hm'
  refine ⟨M', rfl, ?_, ?_⟩
  · simp only [exp_logit]
    rw [coe_sum, den_add, EReal.coe_add]
    congr 1
    rcases hn with ⟨M, rfl, rfl, rfl⟩ | ⟨rfl, rfl, rfl, rfl⟩
    · rw [exp_logit, ← EReal.coe_mul, den_shift]
    · simp [den]
  · simp only [exp_logit]
    rw [num_add]
    congr 1
    rcases hn with ⟨M, rfl, rfl, rfl⟩ | ⟨rfl, rfl, rfl, rfl⟩
    · rw [exp_logit, num_shift]
    · simp [num]

theorem den_pos (s : ℕ → ℝ) (M : ℝ) (n : ℕ) (hn : 0 < n) : 0 < den s M n :=
  Finset.sum_pos (fun k _ => Real.exp_pos _) ⟨0, Finset.mem_range.2 hn⟩

/-- A quotient of a real by a real that is not zero. -/
theorem div_coe (x : EReal) (y : ℝ) (hy : y ≠ 0) : Ideal.div x (y : EReal) = x * ((y⁻¹ : ℝ) : EReal) := by
  unfold Ideal.div
  rw [if_neg (by simpa using hy), EReal.coe_inv]

/-- The softmax of `n` logits at a shift, applied to values. -/
def soft (s : ℕ → ℝ) (v : ℕ → EReal) (n : ℕ) (M : ℝ) : EReal :=
  ∑ k : Fin n, Ideal.div (Ideal.exp ((s k.val : EReal) - (M : EReal))) (∑ j : Fin n, Ideal.exp ((s j.val : EReal) - (M : EReal))) * v k.val

/-- The registers' quotient is the softmax over the keys seen, at any real shift. -/
theorem final (s : ℕ → ℝ) (v : ℕ → EReal) (n : ℕ) (hn : 0 < n) (m l a : EReal) (h : Inv s v n m l a) (M' : ℝ) :
    Ideal.div a l = soft s v n M' := by
  obtain ⟨M, rfl, rfl, rfl⟩ := h
  have hd := den_pos s M n hn
  have hd' := den_pos s M' n hn
  have e : ∑ j : Fin n, Ideal.exp ((s j.val : EReal) - (M' : EReal)) = (den s M' n : ℝ) := by
    simp only [exp_logit]
    rw [coe_sum]; unfold den
    rw [Finset.sum_range (fun x => Real.exp (s x - M'))]
  unfold soft
  rw [e, div_coe _ _ hd.ne', mul_comm]
  unfold num
  rw [coe_mul_sum _ _ (inv_nonneg.2 hd.le), Finset.sum_range (fun x => (((den s M n)⁻¹ : ℝ) : EReal) * ((Real.exp (s x - M) : EReal) * v x))]
  refine Finset.sum_congr rfl fun k _ => ?_
  rw [exp_logit, div_coe _ _ hd'.ne', ← mul_assoc, ← EReal.coe_mul, ← EReal.coe_mul]
  congr 2
  rw [← den_shift s M M' n, show s k.val - M' = (M - M') + (s k.val - M) by ring, Real.exp_add]
  field_simp

/-- The softmax does not depend on the shift. -/
theorem soft_shift (s : ℕ → ℝ) (v : ℕ → EReal) (n : ℕ) (hn : 0 < n) (M M' : ℝ) : soft s v n M = soft s v n M' :=
  (final s v n hn 0 (den s 0 n : ℝ) (num s v 0 n) ⟨0, rfl, rfl, rfl⟩ M).symm.trans
    (final s v n hn 0 (den s 0 n : ℝ) (num s v 0 n) ⟨0, rfl, rfl, rfl⟩ M')

/-! ## The greatest entry, taken one after the other -/

theorem foldl_max_real {ι : Type} (f : ι → EReal) (hf : ∀ i, ∃ x : ℝ, f i = x) :
    ∀ (l : List ι) (b : EReal), b ≠ ⊤ → (b ≠ ⊥ ∨ l ≠ []) → ∃ M : ℝ, l.foldl (fun r i => max r (f i)) b = M
  | [], b, ht, hb => ⟨b.toReal, (EReal.coe_toReal ht (hb.resolve_right fun h => h rfl)).symm⟩
  | i :: l, b, ht, _ => by
    obtain ⟨x, hx⟩ := hf i
    refine foldl_max_real f hf l (max b (f i)) ?_ (.inl ?_)
    · exact ne_of_lt (max_lt (lt_top_iff_ne_top.2 ht) (hx ▸ EReal.coe_lt_top x))
    · exact ne_of_gt (lt_of_lt_of_le (hx ▸ EReal.bot_lt_coe x) (le_max_right _ _))

/-- The greatest of real entries along some axes is real, where there is one. -/
theorem reduce_max_real {s t u : Shape} {axes : List (Fin s.rank)} (x : FVec Ideal s .f32) (init : FVec Ideal u .f32) (h : s.ReducesTo axes t)
    (hu : 0 < u.numel) (j : t.Idx) (hi : init (Shape.Idx.first hu) = ⊥) (hx : ∀ i, ∃ r : ℝ, x i = r) (i : s.Idx) (hij : h.drop i = j) :
    ∃ M : ℝ, Host.reduce FloatOps.maximumf x init h hu j = (M : EReal) := by
  unfold Host.reduce
  rw [hi]
  refine foldl_max_real (fun n => x (s.rowMajor.symm n)) (fun n => hx _) _ _ bot_ne_top (.inr ?_)
  refine List.ne_nil_of_mem (a := s.rowMajor i) (List.mem_filter.2 ⟨List.mem_finRange _, ?_⟩)
  simpa using hij

end Cert.Attn
-- ==== Proof.Attn.Spec.lean ====
/- Softmax attention over the extended reals, for eight heads of 256 columns of queries and keys and 128 of values: the
   array that the latent attention's kernel and its reference both leave, when the queries and the keys are finite. -/
module

public import proofs.«01_k».proof.Proof.Attn.Online
public import Idealize.ShloMosaic.Lib.Pipeline.ValueKit

@[expose] public section

noncomputable section

namespace Cert.Attn

open Idealize.ShloMosaic

variable (q : FVec Ideal ⟨3, ![4, 4096, 2048]⟩ .bf16) (k : FVec Ideal ⟨3, ![4, 4608, 2048]⟩ .bf16) (v : FVec Ideal ⟨3, ![4, 4608, 1024]⟩ .bf16)

/-- A head's column among all heads' columns. -/
abbrev colQ (h : Fin 8) (d : Fin 256) : Fin 2048 := ⟨h.val * 256 + d.val, by omega⟩
abbrev colV (h : Fin 8) (j : Fin 128) : Fin 1024 := ⟨h.val * 128 + j.val, by omega⟩

/-- The logit of a row and a key. -/
def lg (b : Fin 4) (h : Fin 8) (r : Fin 4096) (n : Fin 4608) : EReal :=
  (∑ d : Fin 256, q (ix3 b r (colQ h d)) * k (ix3 b n (colQ h d))) * (((Real.sqrt 192)⁻¹ : ℝ) : EReal)

/-- The queries and the keys are real numbers. -/
structure RealQK : Prop where
  q : ∀ i, ∃ x : ℝ, q i = x
  k : ∀ i, ∃ x : ℝ, k i = x

variable {q k} in
theorem lg_real (hf : RealQK q k) (b : Fin 4) (h : Fin 8) (r : Fin 4096) (n : Fin 4608) : ∃ x : ℝ, lg q k b h r n = x := by
  choose fq hq using hf.q
  choose fk hk using hf.k
  refine ⟨(∑ d : Fin 256, fq (ix3 b r (colQ h d)) * fk (ix3 b n (colQ h d))) * (Real.sqrt 192)⁻¹, ?_⟩
  unfold lg
  simp only [hq, hk, ← EReal.coe_mul, coe_sum]

/-- The logits of a row and the values of a column, as functions of a number: zero past the last key. -/
def sR (b : Fin 4) (h : Fin 8) (r : Fin 4096) (n : ℕ) : ℝ := if hn : n < 4608 then (lg q k b h r ⟨n, hn⟩).toReal else 0
def vR (b : Fin 4) (j : Fin 1024) (n : ℕ) : EReal := if hn : n < 4608 then v (ix3 b ⟨n, hn⟩ j) else 0

variable {q k} in
theorem sR_eq (hf : RealQK q k) (b : Fin 4) (h : Fin 8) (r : Fin 4096) (n : Fin 4608) : ((sR q k b h r n.val : ℝ) : EReal) = lg q k b h r n := by
  obtain ⟨x, hx⟩ := lg_real hf b h r n
  unfold sR
  rw [dif_pos n.isLt]
  show (((lg q k b h r n).toReal : ℝ) : EReal) = _
  rw [hx, EReal.toReal_coe]

theorem vR_eq (b : Fin 4) (j : Fin 1024) (n : Fin 4608) : vR v b j n.val = v (ix3 b n j) := by
  unfold vR
  rw [dif_pos n.isLt]

/-- The attention. -/
def attn : FVec Ideal ⟨3, ![4, 4096, 1024]⟩ .bf16 := fun i =>
  soft (sR q k (i 0) ⟨(i 2).val / 128, by have h : (i 2).val < 1024 := (i 2).isLt; omega⟩ (i 1)) (vR v (i 0) (i 2)) 4608 0

end Cert.Attn

end
-- ==== Proof.Attn.Value.lean ====
/- The latent attention's kernel leaves the attention of its arguments. Along a row's nine points the registers follow the
   softmax over the keys taken in so far, and the last point writes their quotient. -/
module

public import proofs.«01_k».proof.Proof.Attn.Step
public import proofs.«01_k».proof.Proof.Attn.Spec

@[expose] public section

set_option maxRecDepth 16384

noncomputable section

namespace Cert.Kernel6Ideal.Attn

open Cert.Kernel6Ideal Cert.Kernel6Ideal.Gen Cert.Attn
open Idealize.ShloMosaic Idealize.ShloMosaic.TcCoe
open Idealize.ShloMosaic.Pipeline (Dat)

variable (m : (ℓ : Loc nD τ sig) → Buf (Elt Ideal) ℓ) (c : Dev nD)

/-- The arguments at the types they are read at. -/
abbrev Qa : FVec Ideal S4x4096x2048 .bf16 := m ((c : Thread nD τ).loc main_arg0)
abbrev Ka : FVec Ideal S4x4608x2048 .bf16 := m ((c : Thread nD τ).loc main_arg1)
abbrev Va : FVec Ideal S4x4608x1024 .bf16 := m ((c : Thread nD τ).loc main_arg2)

/-! ## One block of keys -/

theorem scale_word : Named.named (F := Ideal) κ "s" (φ := .f32) 1033096506#32 = (((Real.sqrt 192)⁻¹ : ℝ) : EReal) :=
  IdealRules.named_const.ideal_named_scalar _ _ _ _ rfl
theorem mask_word : Named.named (F := Ideal) κ "mask" (φ := .f32) 4048155338#32 = (⊥ : EReal) :=
  IdealRules.named_const.ideal_named_scalar _ _ _ _ rfl
theorem least_word : Ideal.ofBits FTy.f32 4286578688#32 = ⊥ := by simp [Ideal.ofBits, Ideal.ieee]

section Block
variable (q k : FVec Ideal S1x512x256 .bf16) (v : FVec Ideal S1x512x128 .bf16) (g : Regs)

theorem logit_at (r x : Fin 512) :
    k0_pay8 (F := Ideal) q k (ix2 r x) = (∑ d : Fin 256, q (ix3 0 r d) * k (ix3 0 x d)) * (((Real.sqrt 192)⁻¹ : ℝ) : EReal) := by
  have e : k0_pay8 (F := Ideal) q k (ix2 r x) = (∑ d : Fin 256, q (ix3 0 r d) * k (ix3 0 x d)) * Named.named (F := Ideal) κ "s" (φ := .f32) 1033096506#32 := by
    pointwise [k0_pay8]
  rw [e, scale_word]

theorem max_at (mm : FVec Ideal S512x1 .f32) (r : Fin 512) :
    k0_pay9 (F := Ideal) q k mm (ix2 r 0) = max (mm (ix2 r 0)) (Finset.fold max ⊥ (fun x : Fin 512 => k0_pay8 (F := Ideal) q k (ix2 r x)) Finset.univ) := by
  have e : k0_pay9 (F := Ideal) q k mm (ix2 r 0) = max (mm (ix2 r 0)) (Finset.fold max (Ideal.ofBits FTy.f32 4286578688#32) (fun x : Fin 512 => k0_pay8 (F := Ideal) q k (ix2 r x)) Finset.univ) := by
    pointwise [k0_pay9]
  rw [e, least_word]

theorem next_mx (r : Fin 512) : (g.next q k v).mx (ix2 r 0) = k0_pay9 (F := Ideal) q k g.mx (ix2 r 0) := by
  unfold Regs.next
  pointwise [k0_pay2]

theorem next_sm (r : Fin 512) : (g.next q k v).sm (ix2 r 0)
    = Ideal.exp (g.mx (ix2 r 0) - k0_pay9 (F := Ideal) q k g.mx (ix2 r 0)) * g.sm (ix2 r 0)
      + ∑ x : Fin 512, Ideal.exp (k0_pay8 (F := Ideal) q k (ix2 r x) - k0_pay9 (F := Ideal) q k g.mx (ix2 r 0)) := by
  unfold Regs.next
  pointwise [k0_pay12, k0_pay10, k0_pay11]

theorem next_ac (r : Fin 512) (j : Fin 128) : (g.next q k v).ac (ix2 r j)
    = Ideal.exp (g.mx (ix2 r 0) - k0_pay9 (F := Ideal) q k g.mx (ix2 r 0)) * g.ac (ix2 r j)
      + ∑ x : Fin 512, Ideal.exp (k0_pay8 (F := Ideal) q k (ix2 r x) - k0_pay9 (F := Ideal) q k g.mx (ix2 r 0)) * v (ix3 0 x j) := by
  unfold Regs.next
  pointwise [k0_pay1, k0_pay7, k0_pay11, k0_pay13, k0_pay10]

variable {q k v g} in
/-- Taking a block in keeps what the registers say. -/
theorem next_inv (s : ℕ → ℝ) (u : ℕ → EReal) (n : ℕ) (r : Fin 512) (j : Fin 128)
    (hs : ∀ x : Fin 512, k0_pay8 (F := Ideal) q k (ix2 r x) = (s (n + x.val) : EReal)) (hu : ∀ x : Fin 512, v (ix3 0 x j) = u (n + x.val))
    (hn : Inv s u n (g.mx (ix2 r 0)) (g.sm (ix2 r 0)) (g.ac (ix2 r j)) ∨ (n = 0 ∧ Start (g.mx (ix2 r 0)) (g.sm (ix2 r 0)) (g.ac (ix2 r j)))) :
    Inv s u (n + 512) ((g.next q k v).mx (ix2 r 0)) ((g.next q k v).sm (ix2 r 0)) ((g.next q k v).ac (ix2 r j)) := by
  obtain ⟨M, hM⟩ : ∃ M : ℝ, k0_pay9 (F := Ideal) q k g.mx (ix2 r 0) = M := by
    rw [max_at]
    simp only [hs]
    obtain ⟨M₁, h₁⟩ := max_fold_real Finset.univ ⟨(0 : Fin 512), Finset.mem_univ _⟩ (fun x : Fin 512 => s (n + x.val)) ⊥ bot_ne_top
    rw [h₁]
    rcases hn with ⟨M₀, h₀, _⟩ | ⟨_, h₀, _⟩
    · exact ⟨max M₀ M₁, by rw [h₀]; exact (EReal.coe_strictMono.monotone.map_max).symm⟩
    · exact ⟨M₁, by rw [h₀]; exact max_eq_right bot_le⟩
  rw [next_mx, next_sm, next_ac]
  simp only [hs, hu]
  exact step s u n 512 _ _ _ _ hn M hM

theorem fresh_start (r : Fin 512) (j : Fin 128) : Start (Regs.fresh.mx (ix2 r 0)) (Regs.fresh.sm (ix2 r 0)) (Regs.fresh.ac (ix2 r j)) := by
  refine ⟨?_, ?_, ?_⟩
  · have e : Regs.fresh.mx (ix2 r 0) = Named.named (F := Ideal) κ "mask" (φ := .f32) 4048155338#32 := by
      unfold Regs.fresh
      pointwise [k0_pay4]
    rw [e, mask_word]
  · unfold Regs.fresh
    pointwise [k0_pay5]
  · unfold Regs.fresh
    pointwise [k0_pay6]

theorem quotient_at (a : FVec Ideal S512x128 .f32) (l : FVec Ideal S512x1 .f32) (y : S1x512x128.Idx) :
    k0_pay3 (F := Ideal) a l y = Ideal.div (a (ix2 (y 1) (y 2))) (l (ix2 (y 1) 0)) := by
  pointwise [k0_pay3]

end Block

/-! ## Where a block sits -/

/-- A point's batch, head, row and key. -/
abbrev pB (n : ℕ) : Fin 4 := ⟨n / 576 % 4, Nat.mod_lt _ (by decide)⟩
abbrev pH (n : ℕ) : Fin 8 := ⟨n / 72 % 8, Nat.mod_lt _ (by decide)⟩
abbrev pR (n : ℕ) (r : Fin 512) : Fin 4096 := ⟨n / 9 % 8 * 512 + r.val, by omega⟩
abbrev pK (n : ℕ) (x : Fin 512) : Fin 4608 := ⟨n % 9 * 512 + x.val, by omega⟩

theorem coord0 (t : Fin grid0.N) : (grid0.coords t 0).val = t.val / 576 % 4 := Pipeline.Grid.coords_val t 0 (by decide) rfl
theorem coord1 (t : Fin grid0.N) : (grid0.coords t 1).val = t.val / 72 % 8 := Pipeline.Grid.coords_val t 1 (by decide) rfl
theorem coord2 (t : Fin grid0.N) : (grid0.coords t 2).val = t.val / 9 % 8 := Pipeline.Grid.coords_val t 2 (by decide) rfl
theorem coord3 (t : Fin grid0.N) : (grid0.coords t 3).val = t.val % 9 :=
  (Pipeline.Grid.coords_val t 3 (by decide) rfl : (grid0.coords t 3).val = t.val / 1 % 9).trans (by omega)

/-- A coordinate below `2 ^ 32` as a word, in elements. -/
theorem word_mul (n w y : ℕ) (h : n < 4294967296) : (BitVec.ofNat 32 n).toNat * w + y = n * w + y := by
  rw [BitVec.toNat_ofNat, Nat.mod_eq_of_lt h]

section Place
variable (t : Fin grid0.N)

theorem c0_lt : (grid0.coords t 0).val < 4 := (grid0.coords t 0).isLt
theorem c1_lt : (grid0.coords t 1).val < 8 := (grid0.coords t 1).isLt
theorem c2_lt : (grid0.coords t 2).val < 8 := (grid0.coords t 2).isLt
theorem c3_lt : (grid0.coords t 3).val < 9 := (grid0.coords t 3).isLt

def plc0 (x : S1x512x256.Idx) : S4x4096x2048.Idx := (win0_0.blk t).view.emb x
theorem plc0_eq (x : S1x512x256.Idx) : plc0 t x = ix3 (pB t.val) (pR t.val (x 1)) (colQ (pH t.val) (x 2)) := by
  have h0 := c0_lt t; have h1 := c1_lt t; have h2 := c2_lt t
  have hx : (x 0).val < 1 := (x 0).isLt
  funext z
  apply Fin.ext
  refine (Pipeline.Window.rect_emb_val win0_0 t x z rfl).trans ?_
  change Fin 3 at z
  fin_cases z
  · exact (word_mul _ 1 _ (by omega)).trans (by rw [coord0]; show t.val / 576 % 4 * 1 + (x 0).val = t.val / 576 % 4; omega)
  · exact (word_mul _ 512 _ (by omega)).trans (by rw [coord2]; rfl)
  · exact (word_mul _ 256 _ (by omega)).trans (by rw [coord1]; rfl)

def plc1 (x : S1x512x256.Idx) : S4x4608x2048.Idx := (win0_1.blk t).view.emb x
theorem plc1_eq (x : S1x512x256.Idx) : plc1 t x = ix3 (pB t.val) (pK t.val (x 1)) (colQ (pH t.val) (x 2)) := by
  have h0 := c0_lt t; have h1 := c1_lt t; have h3 := c3_lt t
  have hx : (x 0).val < 1 := (x 0).isLt
  funext z
  apply Fin.ext
  refine (Pipeline.Window.rect_emb_val win0_1 t x z rfl).trans ?_
  change Fin 3 at z
  fin_cases z
  · exact (word_mul _ 1 _ (by omega)).trans (by rw [coord0]; show t.val / 576 % 4 * 1 + (x 0).val = t.val / 576 % 4; omega)
  · exact (word_mul _ 512 _ (by omega)).trans (by rw [coord3]; rfl)
  · exact (word_mul _ 256 _ (by omega)).trans (by rw [coord1]; rfl)

def plc2 (x : S1x512x128.Idx) : S4x4608x1024.Idx := (win0_2.blk t).view.emb x
theorem plc2_eq (x : S1x512x128.Idx) : plc2 t x = ix3 (pB t.val) (pK t.val (x 1)) (colV (pH t.val) (x 2)) := by
  have h0 := c0_lt t; have h1 := c1_lt t; have h3 := c3_lt t
  have hx : (x 0).val < 1 := (x 0).isLt
  funext z
  apply Fin.ext
  refine (Pipeline.Window.rect_emb_val win0_2 t x z rfl).trans ?_
  change Fin 3 at z
  fin_cases z
  · exact (word_mul _ 1 _ (by omega)).trans (by rw [coord0]; show t.val / 576 % 4 * 1 + (x 0).val = t.val / 576 % 4; omega)
  · exact (word_mul _ 512 _ (by omega)).trans (by rw [coord3]; rfl)
  · exact (word_mul _ 128 _ (by omega)).trans (by rw [coord1]; rfl)

def plc3 (x : S1x512x128.Idx) : S4x4096x1024.Idx := (win0_3.blk t).view.emb x
theorem plc3_eq (x : S1x512x128.Idx) : plc3 t x = ix3 (pB t.val) (pR t.val (x 1)) (colV (pH t.val) (x 2)) := by
  have h0 := c0_lt t; have h1 := c1_lt t; have h2 := c2_lt t
  have hx : (x 0).val < 1 := (x 0).isLt
  funext z
  apply Fin.ext
  refine (Pipeline.Window.rect_emb_val win0_3 t x z rfl).trans ?_
  change Fin 3 at z
  fin_cases z
  · exact (word_mul _ 1 _ (by omega)).trans (by rw [coord0]; show t.val / 576 % 4 * 1 + (x 0).val = t.val / 576 % 4; omega)
  · exact (word_mul _ 512 _ (by omega)).trans (by rw [coord2]; rfl)
  · exact (word_mul _ 128 _ (by omega)).trans (by rw [coord1]; rfl)

theorem blkQ_at (x : S1x512x256.Idx) : blkQ m c t x = Qa m c (ix3 (pB t.val) (pR t.val (x 1)) (colQ (pH t.val) (x 2))) :=
  (congrArg (V m c main_arg0) (plc0_eq t x)).trans (congrFun (V_main_arg0 m c) _)
theorem blkK_at (x : S1x512x256.Idx) : blkK m c t x = Ka m c (ix3 (pB t.val) (pK t.val (x 1)) (colQ (pH t.val) (x 2))) :=
  (congrArg (V m c main_arg1) (plc1_eq t x)).trans (congrFun (V_main_arg1 m c) _)
theorem blkV_at (x : S1x512x128.Idx) : blkV m c t x = Va m c (ix3 (pB t.val) (pK t.val (x 1)) (colV (pH t.val) (x 2))) :=
  (congrArg (V m c main_arg2) (plc2_eq t x)).trans (congrFun (V_main_arg2 m c) _)

end Place

/-! ## Along a row's points -/

/-- A row's logits and a column's values at a point. -/
abbrev sP (n : ℕ) (r : Fin 512) : ℕ → ℝ := sR (Qa m c) (Ka m c) (pB n) (pH n) (pR n r)
abbrev vP (n : ℕ) (j : Fin 128) : ℕ → EReal := vR (Va m c) (pB n) (colV (pH n) j)

variable {m c} in
theorem logit_eq (hf : RealQK (Qa m c) (Ka m c)) (t : Fin grid0.N) (r x : Fin 512) :
    k0_pay8 (F := Ideal) (blkQ m c t) (blkK m c t) (ix2 r x) = (sP m c t.val r (t.val % 9 * 512 + x.val) : EReal) := by
  refine (logit_at _ _ r x).trans (Eq.trans ?_ (sR_eq hf (pB t.val) (pH t.val) (pR t.val r) (pK t.val x)).symm)
  unfold lg
  exact congrArg (· * _) (Finset.sum_congr rfl fun d _ => congrArg₂ (· * ·) (blkQ_at m c t _) (blkK_at m c t _))

theorem value_eq (t : Fin grid0.N) (x : Fin 512) (j : Fin 128) : blkV m c t (ix3 0 x j) = vP m c t.val j (t.val % 9 * 512 + x.val) :=
  (blkV_at m c t _).trans (vR_eq (Va m c) (pB t.val) (colV (pH t.val) j) (pK t.val x)).symm

variable {m c} in
/-- After a point the registers hold the softmax of the keys up to its block. -/
theorem inv_at (hf : RealQK (Qa m c) (Ka m c)) (n : ℕ) (hn : n < cfg0.N) (r : Fin 512) (j : Fin 128) :
    Inv (sP m c n r) (vP m c n j) (n % 9 * 512 + 512) ((regs m c n hn).mx (ix2 r 0)) ((regs m c n hn).sm (ix2 r 0)) ((regs m c n hn).ac (ix2 r j)) := by
  induction n with
  | zero =>
    rw [regs_first m c ⟨0, hn⟩ rfl]
    exact next_inv _ _ _ r j (fun x => logit_eq hf ⟨0, hn⟩ r x) (fun x => value_eq m c ⟨0, hn⟩ x j) (.inr ⟨rfl, fresh_start r j⟩)
  | succ n ih =>
    by_cases h0 : (n + 1) % 9 = 0
    · rw [regs_first m c ⟨n + 1, hn⟩ h0]
      exact next_inv _ _ _ r j (fun x => logit_eq hf ⟨n + 1, hn⟩ r x) (fun x => value_eq m c ⟨n + 1, hn⟩ x j)
        (.inr ⟨by omega, fresh_start r j⟩)
    · rw [regs_next m c ⟨n + 1, hn⟩ h0]
      refine next_inv _ _ _ r j (fun x => logit_eq hf ⟨n + 1, hn⟩ r x) (fun x => value_eq m c ⟨n + 1, hn⟩ x j) (.inl ?_)
      have eB : pB (n + 1) = pB n := Fin.ext (by show (n + 1) / 576 % 4 = n / 576 % 4; omega)
      have eH : pH (n + 1) = pH n := Fin.ext (by show (n + 1) / 72 % 8 = n / 72 % 8; omega)
      have eR : pR (n + 1) r = pR n r := Fin.ext (by show (n + 1) / 9 % 8 * 512 + r.val = n / 9 % 8 * 512 + r.val; omega)
      have e : (n + 1) % 9 * 512 = n % 9 * 512 + 512 := by omega
      show Inv (sP m c (n + 1) r) (vP m c (n + 1) j) ((n + 1) % 9 * 512) _ _ _
      unfold sP vP
      rw [eB, eH, eR, e]
      exact ih (Nat.lt_of_succ_lt hn)

/-- What the kernel leaves. -/
def result : FVec Ideal S4x4096x1024 .bf16 := attn (Qa m c) (Ka m c) (Va m c)

variable {m c} in
/-- A row's last point writes its part of the attention. -/
theorem tile_at (hf : RealQK (Qa m c) (Ka m c)) (t : Fin grid0.N) (h1 : t.val % 9 = 8) (y : S1x512x128.Idx) :
    k0_pay3 (F := Ideal) (regs m c t.val t.isLt).ac (regs m c t.val t.isLt).sm y = result m c (plc3 t y) := by
  refine (quotient_at _ _ y).trans ?_
  have hi := inv_at hf t.val t.isLt (y 1) (y 2)
  rw [h1] at hi
  refine (final _ _ _ (by decide) _ _ _ hi 0).trans ?_
  rw [plc3_eq]
  unfold result attn
  have e : (⟨(colV (pH t.val) (y 2)).val / 128, by omega⟩ : Fin 8) = pH t.val := by
    have hy : (y 2).val < 128 := (y 2).isLt
    exact Fin.ext (by show (t.val / 72 % 8 * 128 + (y 2).val) / 128 = t.val / 72 % 8; omega)
  exact congrArg (fun h => soft (sR (Qa m c) (Ka m c) (pB t.val) h (pR t.val (y 1))) (vP m c t.val (y 2)) 4608 0) e.symm

/-- The last point of a place's row. -/
def pt (i : S4x4096x1024.Idx) : Fin grid0.N :=
  ⟨(((i 0).val * 8 + (i 2).val / 128) * 8 + (i 1).val / 512) * 9 + 8, by
    have h0 : (i 0).val < 4 := (i 0).isLt
    have h1 : (i 1).val < 4096 := (i 1).isLt
    have h2 : (i 2).val < 1024 := (i 2).isLt
    rw [show grid0.N = 2304 from N_0]; omega⟩

theorem pt_last (i : S4x4096x1024.Idx) : (pt i).val % 9 = 8 := by
  show ((((i 0).val * 8 + (i 2).val / 128) * 8 + (i 1).val / 512) * 9 + 8) % 9 = 8
  omega

theorem covered (i : S4x4096x1024.Idx) : i ∈ (win0_3.blk (pt i)).view.set := by
  have h0 : (i 0).val < 4 := (i 0).isLt
  have h1 : (i 1).val < 4096 := (i 1).isLt
  have h2 : (i 2).val < 1024 := (i 2).isLt
  have e : plc3 (pt i) (ix3 (0 : Fin 1) (⟨(i 1).val % 512, Nat.mod_lt _ (by decide)⟩ : Fin 512) (⟨(i 2).val % 128, Nat.mod_lt _ (by decide)⟩ : Fin 128)) = i := by
    rw [plc3_eq]
    funext z
    apply Fin.ext
    change Fin 3 at z
    fin_cases z
    · show ((((i 0).val * 8 + (i 2).val / 128) * 8 + (i 1).val / 512) * 9 + 8) / 576 % 4 = (i 0).val
      omega
    · show ((((i 0).val * 8 + (i 2).val / 128) * 8 + (i 1).val / 512) * 9 + 8) / 9 % 8 * 512 + (i 1).val % 512 = (i 1).val
      omega
    · show ((((i 0).val * 8 + (i 2).val / 128) * 8 + (i 1).val / 512) * 9 + 8) / 72 % 8 * 128 + (i 2).val % 128 = (i 2).val
      omega
  generalize pt i = t at e ⊢
  exact e.subst (motive := fun z : S4x4096x1024.Idx => z ∈ (win0_3.blk t).view.set) (View.emb_mem_set _ _)

variable {m c} in
/-- The array after the run. -/
theorem final_eq (hf : RealQK (Qa m c) (Ka m c)) : (dats m 0 c).arrAt 3 cfg0.N = result m c := by
  refine (dats m 0 c).arrAt_eq_of_emb 3 (result m c) (fun t ht y => ?_) (fun i => ⟨pt i, (flush0_3 (pt i)).2 (pt_last i), covered i⟩)
  have h1 : t.val % 9 = 8 := (flush0_3 t).1 ht
  rw [after_eq m c t h1]
  exact tile_at hf t h1 y

end Cert.Kernel6Ideal.Attn

end
-- ==== Proof.Attn.Ref.lean ====
/- The latent attention's reference leaves the attention of its arguments: its shift, the greatest logit of a row, is a
   real number where queries and keys are, and the softmax does not depend on it. -/
module

public import proofs.«01_k».proof.Proof.Attn.Spec
public import proofs.«01_k».proof.Proof.Gen.Reference6Ideal.Run

@[expose] public section

set_option maxRecDepth 16384

noncomputable section

namespace Cert.Reference6Ideal.Attn

open Cert.Reference6Ideal Cert.Reference6Ideal.Gen Cert.Attn
open Idealize.ShloMosaic Idealize.ShloMosaic.TcCoe

variable (q : FVec Ideal S4x4096x2048 .bf16) (k : FVec Ideal S4x4608x2048 .bf16) (v : FVec Ideal S4x4608x1024 .bf16)

theorem word_192 : Ideal.ofBits FTy.f32 1128267776#32 = ((192 : ℝ) : EReal) := by
  simp [Ideal.ofBits, Ideal.ieee, -EReal.coe_mul]; norm_num
theorem word_least : Ideal.ofBits FTy.f32 0xFF800000#32 = ⊥ := by simp [Ideal.ofBits, Ideal.ieee]

/-- Dividing by the root of 192 is multiplying by its reciprocal. -/
theorem div_root (x : EReal) : Ideal.div x (Ideal.sqrt (Ideal.ofBits FTy.f32 1128267776#32)) = x * (((Real.sqrt 192)⁻¹ : ℝ) : EReal) := by
  rw [word_192, Ideal.sqrt_coe, if_neg (by norm_num), Ideal.div_coe (Real.sqrt_pos.mpr (by norm_num)).ne', one_div]

/-! ## The reference's steps -/

/-- The logits. -/
def logits : FVec Ideal S4x8x4096x4608 .f32 :=
  Host.divf (Host.dotGeneral (F := Ideal) dot_S4x4096x8x256_S4x4608x8x256_S4x8x4096x4608_3_3_1_1_02_02 none (shapeCast _ (extf .f32 q bitsLt_bf16_f32) shapeCasts_S4x4096x2048_S4x4096x8x256) (shapeCast _ (extf .f32 k bitsLt_bf16_f32) shapeCasts_S4x4608x2048_S4x4608x8x256))
    (broadcastInDim S4x8x4096x4608 ![] bcast_S_S4x8x4096x4608 (Host.sqrt (constant S_ .f32 0x43400000#32)))

theorem logits_at (b : Fin 4) (h : Fin 8) (r : Fin 4096) (n : Fin 4608) : logits q k (ix4 b h r n) = lg q k b h r n := by
  have e : logits q k (ix4 b h r n) = Ideal.div (∑ d : Fin 256, q (ix3 b r (colQ h d)) * k (ix3 b n (colQ h d))) (Ideal.sqrt (Ideal.ofBits FTy.f32 1128267776#32)) := by
    unfold logits
    pointwise
  rw [e, div_root]
  rfl

/-- The greatest logit of every row. -/
def most (s : FVec Ideal S4x8x4096x4608 .f32) : FVec Ideal S4x8x4096 .f32 :=
  Host.reduce FloatOps.maximumf s (constant S_ .f32 0xFF800000#32) reducesTo_S4x8x4096x4608_S4x8x4096_d3 h_S_

theorem most_real (s : FVec Ideal S4x8x4096x4608 .f32) (hs : ∀ i, ∃ x : ℝ, s i = x) (b : Fin 4) (h : Fin 8) (r : Fin 4096) :
    ∃ M : ℝ, most s (ix3 b h r) = M := by
  refine reduce_max_real s _ _ _ (ix3 b h r) word_least hs (ix4 b h r 0) ?_
  funext a
  apply Fin.ext
  change Fin 3 at a
  fin_cases a
  · exact (Shape.ReducesTo.drop_apply_val_of_eq reducesTo_S4x8x4096x4608_S4x8x4096_d3 (ix4 b h r 0) 0 0)
  · exact (Shape.ReducesTo.drop_apply_val_of_eq reducesTo_S4x8x4096x4608_S4x8x4096_d3 (ix4 b h r 0) 1 1)
  · exact (Shape.ReducesTo.drop_apply_val_of_eq reducesTo_S4x8x4096x4608_S4x8x4096_d3 (ix4 b h r 0) 2 2)

/-- The shift of every row. -/
def shift (s : FVec Ideal S4x8x4096 .f32) : FVec Ideal S4x8x4096 .f32 :=
  maximumf (broadcastInDim S4x8x4096 ![] bcast_S_S4x8x4096 (constant S_ .f32 0xFF800000#32)) s

theorem shift_at (s : FVec Ideal S4x8x4096 .f32) (i : S4x8x4096.Idx) : shift s i = s i := by
  have e : shift s i = max (Ideal.ofBits FTy.f32 0xFF800000#32) (s i) := rfl
  rw [e, word_least]
  exact max_eq_right bot_le

/-- The exponentials. -/
def expo (s : FVec Ideal S4x8x4096x4608 .f32) (M : FVec Ideal S4x8x4096 .f32) : FVec Ideal S4x8x4096x4608 .f32 :=
  Host.exp (subf s (broadcastInDim S4x8x4096x4608 ![0, 1, 2, 3] bcast_S4x8x4096x1_S4x8x4096x4608_0_1_2_3 (broadcastInDim S4x8x4096x1 ![0, 1, 2] bcast_S4x8x4096_S4x8x4096x1_0_1_2 M)))

theorem expo_at (s : FVec Ideal S4x8x4096x4608 .f32) (M : FVec Ideal S4x8x4096 .f32) (b : Fin 4) (h : Fin 8) (r : Fin 4096) (n : Fin 4608) :
    expo s M (ix4 b h r n) = Ideal.exp (s (ix4 b h r n) - M (ix3 b h r)) := by
  unfold expo
  pointwise

/-- The weights. -/
def weights (p : FVec Ideal S4x8x4096x4608 .f32) : FVec Ideal S4x8x4096x4608 .f32 :=
  Host.divf p (broadcastInDim S4x8x4096x4608 ![0, 1, 2, 3] bcast_S4x8x4096x1_S4x8x4096x4608_0_1_2_3 (broadcastInDim S4x8x4096x1 ![0, 1, 2] bcast_S4x8x4096_S4x8x4096x1_0_1_2
    (Host.reduceAdd p (constant S_ .f32 0x00000000#32) reducesTo_S4x8x4096x4608_S4x8x4096_d3 h_S_)))

theorem weights_at (p : FVec Ideal S4x8x4096x4608 .f32) (b : Fin 4) (h : Fin 8) (r : Fin 4096) (n : Fin 4608) :
    weights p (ix4 b h r n) = Ideal.div (p (ix4 b h r n)) (∑ x : Fin 4608, p (ix4 b h r x)) := by
  unfold weights
  pointwise

/-- The weighted values. -/
def outp (p : FVec Ideal S4x8x4096x4608 .f32) : FVec Ideal S4x4096x1024 .bf16 :=
  truncf .bf16 (shapeCast _ (transpose S4x4096x8x128 [0, 3, 1, 2] (Host.dotGeneral (F := Ideal) dot_S4x4608x8x128_S4x8x4096x4608_S4x8x128x4096_1_3_3_2_02_01 none
    (shapeCast _ (extf .f32 v bitsLt_bf16_f32) shapeCasts_S4x4608x1024_S4x4608x8x128) p) transposes_S4x8x128x4096_S4x4096x8x128_0_3_1_2) shapeCasts_S4x4096x8x128_S4x4096x1024) bitsLt_bf16_f32

theorem outp_at (p : FVec Ideal S4x8x4096x4608 .f32) (j : S4x4096x1024.Idx) :
    outp v p j = ∑ x : Fin 4608, v (ix3 (j 0) x (j 2)) * p (ix4 (j 0) ⟨(j 2).val / 128, by have h : (j 2).val < 1024 := (j 2).isLt; omega⟩ (j 1) x) := by
  unfold outp
  pointwise

variable {q k} in
/-- One place of the reference's result. -/
theorem place_eq (hf : RealQK q k) (b : Fin 4) (h : Fin 8) (r : Fin 4096) (j : Fin 1024) :
    ∑ x : Fin 4608, v (ix3 b x j) * weights (expo (logits q k) (shift (most (logits q k)))) (ix4 b h r x) = soft (sR q k b h r) (vR v b j) 4608 0 := by
  have hs : ∀ i, ∃ x : ℝ, logits q k i = x := fun i => by
    obtain ⟨b, h, r, n, rfl⟩ : ∃ (b : Fin 4) (h : Fin 8) (r : Fin 4096) (n : Fin 4608), i = ix4 b h r n :=
      ⟨i 0, i 1, i 2, i 3, funext fun a => by change Fin 4 at a; fin_cases a <;> rfl⟩
    obtain ⟨x, hx⟩ := lg_real hf b h r n
    exact ⟨x, (logits_at q k b h r n).trans hx⟩
  obtain ⟨M, hM⟩ := most_real _ hs b h r
  rw [soft_shift _ _ 4608 (by decide) 0 M]
  unfold soft
  refine Finset.sum_congr rfl fun x _ => ?_
  have he : ∀ y : Fin 4608, expo (logits q k) (shift (most (logits q k))) (ix4 b h r y)
      = Ideal.exp (((sR q k b h r y.val : ℝ) : EReal) - (M : EReal)) := fun y => by
    rw [expo_at, shift_at, hM, logits_at, sR_eq hf]
  rw [weights_at, vR_eq, mul_comm]
  simp only [he]

variable {q k} in
/-- The reference's result. -/
theorem ref_eq (hf : RealQK q k) : outp v (weights (expo (logits q k) (shift (most (logits q k))))) = attn q k v := by
  funext j
  exact (outp_at v _ j).trans (place_eq v hf (j 0) _ (j 1) (j 2))

end Cert.Reference6Ideal.Attn

end
-- ==== Proof.Attn.Pre.lean ====
/- From the precondition `finite` to real queries and keys. -/
module

public import proofs.«01_k».proof.Proof.Attn.Spec
public import proofs.«01_k».proof.Proof.Gen.Pre_finite
public import Idealize.ShloMosaic.Lib.ReduceAll

@[expose] public section

set_option maxRecDepth 16384

noncomputable section

namespace Cert.Attn

open Idealize.ShloMosaic

theorem word_top : Ideal.ofBits .f32 0x7F800000#32 = ⊤ := by simp [Ideal.ofBits, Ideal.ieee]
theorem word_bot : Ideal.ofBits .f32 0xFF800000#32 = ⊥ := by simp [Ideal.ofBits, Ideal.ieee]

/-- An entry strictly between the infinities is a real number. -/
theorem real_of_cmp (x a b : EReal) (ha : a = ⊤) (hb : b = ⊥) (h0 : Ideal.cmp .olt x a = 1#1) (h1 : Ideal.cmp .ogt x b = 1#1) : ∃ r : ℝ, x = r := by
  have one (p : Bool) (h : BitVec.ofBool p = 1#1) : p = true := by revert h; cases p <;> decide
  have e0 : x < a := of_decide_eq_true (one _ h0)
  have e1 : b < x := of_decide_eq_true (one _ h1)
  subst ha; subst hb
  exact ⟨x.toReal, (EReal.coe_toReal e0.ne e1.ne').symm⟩

theorem finite_of_pre (q k v) (h : Cert.Pre_finite.fn (F := Ideal) q k v = fun _ => 1#1) : RealQK q k := by
  have andi_one (a b : BitVec 1) : IntOp.andi a b = 1#1 ↔ a = 1#1 ∧ b = 1#1 := by revert a b; decide
  have e := congrFun h (fun a => a.elim0)
  simp only [Cert.Pre_finite.fn, Cert.Pre_finite.fn_part1, andi, andi_one] at e
  obtain ⟨⟨⟨e0, e1⟩, e2⟩, e3⟩ := e
  exact ⟨fun i => real_of_cmp _ _ _ word_top word_bot (Host.reduce_andi_all _ _ _ _ _ e0 i) (Host.reduce_andi_all _ _ _ _ _ e1 i),
    fun i => real_of_cmp _ _ _ word_top word_bot (Host.reduce_andi_all _ _ _ _ _ e2 i) (Host.reduce_andi_all _ _ _ _ _ e3 i)⟩

end Cert.Attn

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Pre_ranges
public import proofs.«01_k».proof.Proof.Gen.Pre_finite
public import proofs.«01_k».proof.Proof.MoeK.Pre
public import proofs.«01_k».proof.Proof.Moe.Meet
public import proofs.«01_k».proof.Proof.Proj.QkvRef
public import proofs.«01_k».proof.Proof.Proj.Out
public import proofs.«01_k».proof.Proof.Proj.In
public import proofs.«01_k».proof.Proof.Proj.Tail
public import proofs.«01_k».proof.Proof.Proj.Norm
public import proofs.«01_k».proof.Proof.Proj.Kv
public import proofs.«01_k».proof.Proof.Attn.Value
public import proofs.«01_k».proof.Proof.Attn.Ref
public import proofs.«01_k».proof.Proof.Attn.Pre
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The kernel as compiled runs, ends, and leaves its arguments. -/
theorem frame_k : Cert.quiescent_Kernel := fun m g h =>
  Cert.Kernel.Moe.frame m g (Cert.Kernel.Moe.ok_of_rng _ (Cert.Kernel.Moe.rng_of_fn m _ _ _ _ _ (h 0)))

/-- The kernel over the extended reals runs, ends, and leaves its arguments. -/
theorem frame_i : Cert.quiescent_KernelIdeal := fun m g h =>
  Cert.KernelIdeal.Moe.frame m g (Cert.KernelIdeal.Moe.ok_of_rng _ (Cert.KernelIdeal.Moe.rng_of_fn m _ _ _ _ _ (h 0)))

/-- The reference runs, ends, and leaves its arguments. -/
theorem frame_r : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The kernel's result is the reference's. -/
theorem value : Cert.algebraic_KernelIdeal_ReferenceIdeal := by
  intro m g m' g' hp hag
  have hR := Cert.KernelIdeal.Moe.rng_of_fn m _ _ _ _ _ (hp 0)
  have hO : Cert.KernelIdeal.Moe.Ok m := Cert.KernelIdeal.Moe.ok_of_rng _ hR
  refine ⟨fun c => Cert.KernelIdeal.Moe.result m c hR, ?_, ?_⟩
  · refine (θ_run Cert.KernelIdeal.defs _ _).mono (fun r h c => ?_)
      (θ_run_and (Cert.KernelIdeal.Moe.run_main m g hO) (Cert.KernelIdeal.Moe.unchanged m g hO))
    exact ⟨((h.1 c).1 7).trans (Cert.KernelIdeal.Moe.final m hO c hR), h.2 c⟩
  · refine (θ_run Cert.ReferenceIdeal.defs _ _).mono (fun r h c => ?_) (Cert.ReferenceIdeal.Value.run (F := Ideal) m' g')
    refine ⟨(h c).1.trans ?_, (h c).2⟩
    obtain ⟨e0, e1, e2, e3, e4, e5, e6⟩ := hag c
    rw [Cert.ReferenceIdeal.Moe.res_eq, e0, e1, e2, e3, e4, e5, e6]
    exact (Cert.KernelIdeal.Moe.result_eq m hR c).symm

/-! ## The joint query, key and value projection -/

theorem frame_k2 : Cert.quiescent_Kernel2 := fun m g _ => Cert.Kernel2.Gen.frame m g

theorem frame_i2 : Cert.quiescent_Kernel2Ideal := fun m g _ => Cert.Kernel2Ideal.Gen.frame m g

theorem frame_r2 : Cert.quiescent_Reference2Ideal := fun m g _ =>
  (θ_run Cert.Reference2Ideal.defs _ _).mono
    (fun r h => ⟨fun c => (h c).2, Idealize.ShloMosaic.sem_eq_zero_of_no_sems (by decide) r.2⟩)
    (Cert.Reference2Ideal.Value.run (F := Ideal) m g)

theorem value2 : Cert.algebraic_Kernel2Ideal_Reference2Ideal := by
  intro m g m' g' hp hag
  refine ⟨fun c => Cert.Kernel2Ideal.Proj.result m c, ?_, ?_⟩
  · refine (θ_run Cert.Kernel2Ideal.defs _ _).mono (fun r h c => ?_) (Cert.Kernel2Ideal.Value.run_blocks (F := Ideal) m g)
    exact ⟨(h c).1.trans (Cert.Kernel2Ideal.Proj.final m c), (h c).2⟩
  · refine (θ_run Cert.Reference2Ideal.defs _ _).mono (fun r h c => ?_) (Cert.Reference2Ideal.Value.run (F := Ideal) m' g')
    refine ⟨(h c).1.trans ?_, (h c).2⟩
    obtain ⟨e0, e1, e2, e3⟩ := hag c
    rw [Cert.Reference2Ideal.Proj.out_eq, e0, e1, e2, e3]
    exact Cert.Reference2Ideal.Proj.ref_eq m c

/-! ## The output projection -/

theorem frame_k3 : Cert.quiescent_Kernel3 := fun m g _ => Cert.Kernel3.Gen.frame m g

theorem frame_i3 : Cert.quiescent_Kernel3Ideal := fun m g _ => Cert.Kernel3Ideal.Gen.frame m g

theorem frame_r3 : Cert.quiescent_Reference3Ideal := fun m g _ =>
  (θ_run Cert.Reference3Ideal.defs _ _).mono
    (fun r h => ⟨fun c => (h c).2, Idealize.ShloMosaic.sem_eq_zero_of_no_sems (by decide) r.2⟩)
    (Cert.Reference3Ideal.Value.run (F := Ideal) m g)

theorem value3 : Cert.algebraic_Kernel3Ideal_Reference3Ideal := by
  intro m g m' g' hp hag
  refine ⟨fun c => Cert.Kernel3Ideal.Proj.result m c, ?_, ?_⟩
  · refine (θ_run Cert.Kernel3Ideal.defs _ _).mono (fun r h c => ?_) (Cert.Kernel3Ideal.Value.run_blocks (F := Ideal) m g)
    exact ⟨(h c).1.trans (Cert.Kernel3Ideal.Proj.final m c), (h c).2⟩
  · refine (θ_run Cert.Reference3Ideal.defs _ _).mono (fun r h c => ?_) (Cert.Reference3Ideal.Value.run (F := Ideal) m' g')
    refine ⟨(h c).1.trans ?_, (h c).2⟩
    obtain ⟨e0, e1, e2, e3⟩ := hag c
    rw [e0, e1, e2, e3]
    exact Cert.Kernel3Ideal.Proj.ref_eq m c

/-! ## The input projection -/

theorem frame_k4 : Cert.quiescent_Kernel4 := fun m g _ => Cert.Kernel4.Gen.frame m g

theorem frame_i4 : Cert.quiescent_Kernel4Ideal := fun m g _ => Cert.Kernel4Ideal.Gen.frame m g

theorem frame_r4 : Cert.quiescent_Reference4Ideal := fun m g _ =>
  (θ_run Cert.Reference4Ideal.defs _ _).mono
    (fun r h => ⟨fun c => (h c).2, Idealize.ShloMosaic.sem_eq_zero_of_no_sems (by decide) r.2⟩)
    (Cert.Reference4Ideal.Value.run (F := Ideal) m g)

theorem value4 : Cert.algebraic_Kernel4Ideal_Reference4Ideal := by
  intro m g m' g' hp hag
  refine ⟨fun c => Cert.Kernel4Ideal.Proj.result m c, ?_, ?_⟩
  · refine (θ_run Cert.Kernel4Ideal.defs _ _).mono (fun r h c => ?_) (Cert.Kernel4Ideal.Value.run_blocks (F := Ideal) m g)
    exact ⟨(h c).1.trans (Cert.Kernel4Ideal.Proj.final m c), (h c).2⟩
  · refine (θ_run Cert.Reference4Ideal.defs _ _).mono (fun r h c => ?_) (Cert.Reference4Ideal.Value.run (F := Ideal) m' g')
    refine ⟨(h c).1.trans ?_, (h c).2⟩
    obtain ⟨e0, e1⟩ := hag c
    rw [e0, e1]
    exact Cert.Kernel4Ideal.Proj.ref_eq m c

/-! ## The input projection's columns for the latent attention -/

theorem frame_k5 : Cert.quiescent_Kernel5 := fun m g _ => Cert.Kernel5.Gen.frame m g

theorem frame_i5 : Cert.quiescent_Kernel5Ideal := fun m g _ => Cert.Kernel5Ideal.Gen.frame m g

theorem frame_r5 : Cert.quiescent_Reference5Ideal := fun m g _ =>
  (θ_run Cert.Reference5Ideal.defs _ _).mono
    (fun r h => ⟨fun c => (h c).2.2.2, Idealize.ShloMosaic.sem_eq_zero_of_no_sems (by decide) r.2⟩)
    (Cert.Reference5Ideal.Value.run (F := Ideal) m g)

theorem value5 : Cert.algebraic_Kernel5Ideal_Reference5Ideal := by
  intro m g m' g' hp hag
  refine ⟨fun c => Cert.Kernel5Ideal.Proj.result m c,
    fun c => Cert.Kernel5Ideal.Proj.ckv (Cert.Kernel5Ideal.Proj.result m c) (m ((c.tc : Thread Cert.Kernel5Ideal.nD Cert.Kernel5Ideal.τ).loc Cert.Kernel5Ideal.main_arg2)),
    fun c => Cert.Kernel5Ideal.Proj.kpe (Cert.Kernel5Ideal.Proj.result m c), Cert.Kernel5Ideal.Proj.run_tail m g, ?_⟩
  refine (θ_run Cert.Reference5Ideal.defs _ _).mono (fun r h c => ?_) (Cert.Reference5Ideal.Value.run (F := Ideal) m' g')
  obtain ⟨e0, e1, e2⟩ := hag c
  refine ⟨(h c).1.trans ?_, (h c).2.1.trans ?_, (h c).2.2.1.trans ?_, (h c).2.2.2⟩
  · rw [e0, e1]
    exact Cert.Kernel5Ideal.Proj.ref_eq m c
  · rw [e0, e1, e2]
    exact Cert.Kernel5Ideal.Proj.ckv_eq m c (m ((c.tc : Thread Cert.Kernel5Ideal.nD Cert.Kernel5Ideal.τ).loc Cert.Kernel5Ideal.main_arg2))
  · rw [e0, e1]
    exact Cert.Kernel5Ideal.Proj.kpe_eq m c

/-! ## The latent attention -/

theorem frame_k6 : Cert.quiescent_Kernel6 := fun m g _ => Cert.Kernel6.Gen.frame m g

theorem frame_i6 : Cert.quiescent_Kernel6Ideal := fun m g _ => Cert.Kernel6Ideal.Gen.frame m g

theorem frame_r6 : Cert.quiescent_Reference6Ideal := fun m g _ =>
  (θ_run Cert.Reference6Ideal.defs _ _).mono
    (fun r h => ⟨fun c => (h c).2, Idealize.ShloMosaic.sem_eq_zero_of_no_sems (by decide) r.2⟩)
    (Cert.Reference6Ideal.Value.run (F := Ideal) m g)

/-- The two constants that stand for minus infinity and for the reciprocal root of 192. -/
theorem preserves6 : Cert.preserves_Kernel6_Kernel6Ideal :=
  ⟨IdealRules.named_const.statement Cert.Kernel6Ideal.κ "mask" .f32 0xF149F2CA#32 ⊥ rfl,
    IdealRules.named_const.statement Cert.Kernel6Ideal.κ "s" .f32 0x3D93CD3A#32 (((Real.sqrt 192)⁻¹ : ℝ) : EReal) rfl⟩

theorem value6 : Cert.algebraic_Kernel6Ideal_Reference6Ideal := by
  intro m g m' g' hp hag
  have hf := fun c => Cert.Attn.finite_of_pre _ _ _ (hp c)
  refine ⟨fun c => Cert.Kernel6Ideal.Attn.result m c, ?_, ?_⟩
  · refine (θ_run Cert.Kernel6Ideal.defs _ _).mono (fun r h c => ?_) (Cert.Kernel6Ideal.Value.run_blocks (F := Ideal) m g)
    exact ⟨(h c).1.trans (Cert.Kernel6Ideal.Attn.final_eq (hf c)), (h c).2⟩
  · refine (θ_run Cert.Reference6Ideal.defs _ _).mono (fun r h c => ?_) (Cert.Reference6Ideal.Value.run (F := Ideal) m' g')
    refine ⟨(h c).1.trans ?_, (h c).2⟩
    obtain ⟨e0, e1, e2⟩ := hag c
    rw [e0, e1, e2]
    exact Cert.Reference6Ideal.Attn.ref_eq _ (hf c)

/-! ## The norm and conditioning before a mixer -/

theorem frame_k7 : Cert.quiescent_Kernel7 := fun m g _ => Cert.Kernel7.Gen.frame m g

theorem frame_i7 : Cert.quiescent_Kernel7Ideal := fun m g _ => Cert.Kernel7Ideal.Gen.frame m g

theorem frame_r7 : Cert.quiescent_Reference7Ideal := fun m g _ =>
  (θ_run Cert.Reference7Ideal.defs _ _).mono
    (fun r h => ⟨fun c => (h c).2, Idealize.ShloMosaic.sem_eq_zero_of_no_sems (by decide) r.2⟩)
    (Cert.Reference7Ideal.Value.run (F := Ideal) m g)

theorem value7 : Cert.algebraic_Kernel7Ideal_Reference7Ideal := by
  intro m g m' g' hp hag
  refine ⟨fun c => Cert.Kernel7Ideal.Norm.result m c, ?_, ?_⟩
  · refine (θ_run Cert.Kernel7Ideal.defs _ _).mono (fun r h c => ?_) (Cert.Kernel7Ideal.Value.run_blocks (F := Ideal) m g)
    exact ⟨(h c).1.trans (Cert.Kernel7Ideal.Norm.final m c), (h c).2⟩
  · refine (θ_run Cert.Reference7Ideal.defs _ _).mono (fun r h c => ?_) (Cert.Reference7Ideal.Value.run (F := Ideal) m' g')
    refine ⟨(h c).1.trans ?_, (h c).2⟩
    obtain ⟨e0, e1, e2⟩ := hag c
    rw [e0, e1, e2]
    exact Cert.Kernel7Ideal.Norm.ref_eq m c

/-! ## The expansion of the compressed keys and values -/

theorem frame_k8 : Cert.quiescent_Kernel8 := fun m g _ => Cert.Kernel8.Gen.frame m g

theorem frame_i8 : Cert.quiescent_Kernel8Ideal := fun m g _ => Cert.Kernel8Ideal.Gen.frame m g

theorem frame_r8 : Cert.quiescent_Reference8Ideal := fun m g _ =>
  (θ_run Cert.Reference8Ideal.defs _ _).mono
    (fun r h => ⟨fun c => (h c).2, Idealize.ShloMosaic.sem_eq_zero_of_no_sems (by decide) r.2⟩)
    (Cert.Reference8Ideal.Value.run (F := Ideal) m g)

theorem value8 : Cert.algebraic_Kernel8Ideal_Reference8Ideal := by
  intro m g m' g' hp hag
  refine ⟨fun c => Cert.Kernel8Ideal.Proj.result m c, ?_, ?_⟩
  · refine (θ_run Cert.Kernel8Ideal.defs _ _).mono (fun r h c => ?_) (Cert.Kernel8Ideal.Value.run_blocks (F := Ideal) m g)
    exact ⟨(h c).1.trans (Cert.Kernel8Ideal.Proj.final m c), (h c).2⟩
  · refine (θ_run Cert.Reference8Ideal.defs _ _).mono (fun r h c => ?_) (Cert.Reference8Ideal.Value.run (F := Ideal) m' g')
    refine ⟨(h c).1.trans ?_, (h c).2⟩
    obtain ⟨e0, e1⟩ := hag c
    rw [e0, e1]
    exact Cert.Kernel8Ideal.Proj.ref_eq m c

/-! ## The whole -/

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Pre_ranges.Gen.facts, Cert.Pre_finite.Gen.facts,
    frame_k, frame_i, frame_r, frame_k2, frame_i2, frame_r2, frame_k3, frame_i3, frame_r3, frame_k4, frame_i4, frame_r4,
    frame_k5, frame_i5, frame_r5, frame_k6, frame_i6, frame_r6, frame_k7, frame_i7, frame_r7, frame_k8, frame_i8, frame_r8,
    trivial, value, trivial, value2, trivial, value3, trivial, value4, trivial, value5, preserves6, value6, trivial, value7, trivial, value8⟩

end Cert.Proof

end
